-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v11) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v28) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v3_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v3_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v66) = v0 c
          ∧ r.2.mem ((c.tc : Thread Cert.Reference20Ideal.nD Cert.Reference20Ideal.τ).loc Cert.Reference20Ideal.main_v70) = v1 c
          ∧ r.2.mem ((c.tc : Thread Cert.Reference20Ideal.nD Cert.Reference20Ideal.τ).loc Cert.Reference20Ideal.main_v71) = v2 c
          ∧ r.2.mem ((c.tc : Thread Cert.Reference20Ideal.nD Cert.Reference20Ideal.τ).loc Cert.Reference20Ideal.main_v72) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v3_0)) (v1 : (c : Dev Cert.Kernel21Ideal.nD) → Buf (Elt Ideal) ((c.tc : Thread Cert.Kernel21Ideal.nD Cert.Kernel21Ideal.τ).loc Cert.Kernel21Ideal.main_v3_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3_0) = v0 c
          ∧ r.2.mem ((c.tc : Thread Cert.Kernel21Ideal.nD Cert.Kernel21Ideal.τ).loc Cert.Kernel21Ideal.main_v3_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v38) = v0 c
          ∧ r.2.mem ((c.tc : Thread Cert.Reference21Ideal.nD Cert.Reference21Ideal.τ).loc Cert.Reference21Ideal.main_v59) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)) →
    ∃ (v0 : (c : Dev Cert.Kernel22Ideal.nD) → Buf (Elt Ideal) ((c.tc : Thread Cert.Kernel22Ideal.nD Cert.Kernel22Ideal.τ).loc Cert.Kernel22Ideal.main_v3_0)) (v1 : (c : Dev Cert.Kernel22Ideal.nD) → Buf (Elt Ideal) ((c.tc : Thread Cert.Kernel22Ideal.nD Cert.Kernel22Ideal.τ).loc Cert.Kernel22Ideal.main_v3_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3_0) = v0 c
          ∧ r.2.mem ((c.tc : Thread Cert.Kernel22Ideal.nD Cert.Kernel22Ideal.τ).loc Cert.Kernel22Ideal.main_v3_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v47) = v0 c
          ∧ r.2.mem ((c.tc : Thread Cert.Reference22Ideal.nD Cert.Reference22Ideal.τ).loc Cert.Reference22Ideal.main_v68) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)) →
    ∃ (v0 : (c : Dev Cert.Kernel23Ideal.nD) → Buf (Elt Ideal) ((c.tc : Thread Cert.Kernel23Ideal.nD Cert.Kernel23Ideal.τ).loc Cert.Kernel23Ideal.main_v2_0)) (v1 : (c : Dev Cert.Kernel23Ideal.nD) → Buf (Elt Ideal) ((c.tc : Thread Cert.Kernel23Ideal.nD Cert.Kernel23Ideal.τ).loc Cert.Kernel23Ideal.main_v2_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2_0) = v0 c
          ∧ r.2.mem ((c.tc : Thread Cert.Kernel23Ideal.nD Cert.Kernel23Ideal.τ).loc Cert.Kernel23Ideal.main_v2_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v35) = v0 c
          ∧ r.2.mem ((c.tc : Thread Cert.Reference23Ideal.nD Cert.Reference23Ideal.τ).loc Cert.Reference23Ideal.main_v56) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Kernel.lean ====
abbrev S4608x1024 : Shape := ⟨2, ![4608, 1024]⟩
abbrev S4608x8192 : Shape := ⟨2, ![4608, 8192]⟩
abbrev S8x128x1024 : Shape := ⟨3, ![8, 128, 1024]⟩
abbrev S8x1024x128 : Shape := ⟨3, ![8, 1024, 128]⟩
abbrev S8x72x1024 : Shape := ⟨3, ![8, 72, 1024]⟩
abbrev S8x8x1024 : Shape := ⟨3, ![8, 8, 1024]⟩
abbrev S512x128 : Shape := ⟨2, ![512, 128]⟩
abbrev S512x1024 : Shape := ⟨2, ![512, 1024]⟩
abbrev S1x128x1024 : Shape := ⟨3, ![1, 128, 1024]⟩
abbrev S1x1024x128 : Shape := ⟨3, ![1, 1024, 128]⟩
abbrev S1x72x1024 : Shape := ⟨3, ![1, 72, 1024]⟩
abbrev S1x8x1024 : Shape := ⟨3, ![1, 8, 1024]⟩
abbrev S16x1024 : Shape := ⟨2, ![16, 1024]⟩
abbrev S256x1024 : Shape := ⟨2, ![256, 1024]⟩
abbrev S1x1x1024 : Shape := ⟨3, ![1, 1, 1024]⟩
abbrev S1x1024 : Shape := ⟨2, ![1, 1024]⟩
abbrev S8x1024 : Shape := ⟨2, ![8, 1024]⟩
abbrev S128x1024 : Shape := ⟨2, ![128, 1024]⟩
abbrev S1x8x512 : Shape := ⟨3, ![1, 8, 512]⟩
abbrev S8x512 : Shape := ⟨2, ![8, 512]⟩
abbrev S1x512 : Shape := ⟨2, ![1, 512]⟩
abbrev S1024x128 : Shape := ⟨2, ![1024, 128]⟩
abbrev S32x128 : Shape := ⟨2, ![32, 128]⟩

abbrev nBuf : Space → Nat
  | .hbm => 10
  | .vmem => 24
  | .smem => 0
  | _ => 0

abbrev bufTy : (tb : Table) → Fin (tcTables nBuf tb) → BufTy
  | .hbm, ⟨0, _⟩ => ⟨S4608x1024, .bf16⟩
  | .hbm, ⟨1, _⟩ => ⟨S4608x8192, .f32⟩
  | .hbm, ⟨2, _⟩ => ⟨S4608x1024, .bf16⟩
  | .hbm, ⟨3, _⟩ => ⟨S8x128x1024, .bf16⟩
  | .hbm, ⟨4, _⟩ => ⟨S8x1024x128, .bf16⟩
  | .hbm, ⟨5, _⟩ => ⟨S8x72x1024, .f32⟩
  | .hbm, ⟨6, _⟩ => ⟨S4608x1024, .f32⟩
  | .hbm, ⟨7, _⟩ => ⟨S8x128x1024, .f32⟩
  | .hbm, ⟨8, _⟩ => ⟨S8x128x1024, .f32⟩
  | .hbm, ⟨9, _⟩ => ⟨S8x8x1024, .f32⟩
  | .local _ .vmem, ⟨0, _⟩ => ⟨S512x128, .bf16⟩
  | .local _ .vmem, ⟨1, _⟩ => ⟨S512x128, .bf16⟩
  | .local _ .vmem, ⟨2, _⟩ => ⟨S512x1024, .f32⟩
  | .local _ .vmem, ⟨3, _⟩ => ⟨S512x1024, .f32⟩
  | .local _ .vmem, ⟨4, _⟩ => ⟨S512x128, .bf16⟩
  | .local _ .vmem, ⟨5, _⟩ => ⟨S512x128, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x72x1024, .f32⟩
  | .local _ .vmem, ⟨11, _⟩ => ⟨S1x72x1024, .f32⟩
  | .local _ .vmem, ⟨12, _⟩ => ⟨S512x128, .f32⟩
  | .local _ .vmem, ⟨13, _⟩ => ⟨S512x128, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x8x1024, .f32⟩
  | .local _ .vmem, ⟨19, _⟩ => ⟨S1x8x1024, .f32⟩
  | .local _ .vmem, ⟨20, _⟩ => ⟨S512x1024, .f32⟩
  | .local _ .vmem, ⟨21, _⟩ => ⟨S16x1024, .f32⟩
  | .local _ .vmem, ⟨22, _⟩ => ⟨S512x128, .f32⟩
  | .local _ .vmem, ⟨23, _⟩ => ⟨S256x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 9], ![false, false]⟩

@[reducible] def k0_t1_loop : Scf.Loop 32 :=
  let c0_i32_15 : BitVec 32 := 0#32
  let c32_i32 : BitVec 32 := 32#32
  let v16 : BitVec 32 := Scalar.addi c0_i32_15 c32_i32
  let c1_i32 : BitVec 32 := 1#32
  ⟨c0_i32_15, v16, c1_i32⟩
def k0_mult1 (k0_t1 : Fin k0_t1_loop.trips) : BitVec 32 :=
  let c0_i32_155 : BitVec 32 := 0#32
  let c31_i32 : BitVec 32 := 31#32
  let c0_i32_15 : BitVec 32 := 0#32
  let c1_i32 : BitVec 32 := 1#32
  let arg16 : BitVec 32 := Scf.iv c0_i32_15 c1_i32 k0_t1
  let v244 : BitVec 32 := Scalar.subi c31_i32 arg16
  let v245 : BitVec 32 := Scalar.addi c0_i32_155 v244
  let c8_i32 : BitVec 32 := 8#32
  let v246 : BitVec 32 := Scalar.muli v245 c8_i32
  v246
def k0_off1 (k0_t1 : Fin k0_t1_loop.trips) (c0_i32_155 : BitVec 32) : Fin 2 → Nat :=
  let c31_i32 : BitVec 32 := 31#32
  let c0_i32_15 : BitVec 32 := 0#32
  let c1_i32 : BitVec 32 := 1#32
  let arg16 : BitVec 32 := Scf.iv c0_i32_15 c1_i32 k0_t1
  let v244 : BitVec 32 := Scalar.subi c31_i32 arg16
  let v245 : BitVec 32 := Scalar.addi c0_i32_155 v244
  let c8_i32 : BitVec 32 := 8#32
  let v246 : BitVec 32 := Scalar.muli v245 c8_i32
  let v247 : BitVec 32 := v246
  let v248 : Index := Scalar.indexCast v247
  let c0_156 : Index := 0#32
  ![v248.toNat, 0]
def k0_mult2 (k0_t1 : Fin k0_t1_loop.trips) : BitVec 32 :=
  let c0_i32_157 : BitVec 32 := 0#32
  let c31_i32 : BitVec 32 := 31#32
  let c0_i32_15 : BitVec 32 := 0#32
  let c1_i32 : BitVec 32 := 1#32
  let arg16 : BitVec 32 := Scf.iv c0_i32_15 c1_i32 k0_t1
  let v244 : BitVec 32 := Scalar.subi c31_i32 arg16
  let v250 : BitVec 32 := Scalar.addi c0_i32_157 v244
  let c8_i32_158 : BitVec 32 := 8#32
  let v251 : BitVec 32 := Scalar.muli v250 c8_i32_158
  v251
def k0_off2 (k0_t1 : Fin k0_t1_loop.trips) (c0_i32_157 : BitVec 32) : Fin 2 → Nat :=
  let c31_i32 : BitVec 32 := 31#32
  let c0_i32_15 : BitVec 32 := 0#32
  let c1_i32 : BitVec 32 := 1#32
  let arg16 : BitVec 32 := Scf.iv c0_i32_15 c1_i32 k0_t1
  let v244 : BitVec 32 := Scalar.subi c31_i32 arg16
  let v250 : BitVec 32 := Scalar.addi c0_i32_157 v244
  let c8_i32_158 : BitVec 32 := 8#32
  let v251 : BitVec 32 := Scalar.muli v250 c8_i32_158
  let v252 : BitVec 32 := v251
  let v253 : Index := Scalar.indexCast v252
  let c512_159 : Index := 512#32
  ![v253.toNat, 512]
def k0_mult3 (k0_t1 : Fin k0_t1_loop.trips) : BitVec 32 :=
  let c0_i32_160 : BitVec 32 := 0#32
  let c31_i32 : BitVec 32 := 31#32
  let c0_i32_15 : BitVec 32 := 0#32
  let c1_i32 : BitVec 32 := 1#32
  let arg16 : BitVec 32 := Scf.iv c0_i32_15 c1_i32 k0_t1
  let v244 : BitVec 32 := Scalar.subi c31_i32 arg16
  let v263 : BitVec 32 := Scalar.addi c0_i32_160 v244
  let c8_i32_161 : BitVec 32 := 8#32
  let v264 : BitVec 32 := Scalar.muli v263 c8_i32_161
  v264
def k0_mult4 (k0_t1 : Fin k0_t1_loop.trips) : BitVec 32 :=
  let c0_i32_163 : BitVec 32 := 0#32
  let c31_i32 : BitVec 32 := 31#32
  let c0_i32_15 : BitVec 32 := 0#32
  let c1_i32 : BitVec 32 := 1#32
  let arg16 : BitVec 32 := Scf.iv c0_i32_15 c1_i32 k0_t1
  let v244 : BitVec 32 := Scalar.subi c31_i32 arg16
  let v270 : BitVec 32 := Scalar.addi c0_i32_163 v244
  let c8_i32_164 : BitVec 32 := 8#32
  let v271 : BitVec 32 := Scalar.muli v270 c8_i32_164
  v271
def k0_mult5 (k0_t1 : Fin k0_t1_loop.trips) : BitVec 32 :=
  let c32_i32_166 : BitVec 32 := 32#32
  let c31_i32 : BitVec 32 := 31#32
  let c0_i32_15 : BitVec 32 := 0#32
  let c1_i32 : BitVec 32 := 1#32
  let arg16 : BitVec 32 := Scf.iv c0_i32_15 c1_i32 k0_t1
  let v244 : BitVec 32 := Scalar.subi c31_i32 arg16
  let v277 : BitVec 32 := Scalar.addi c32_i32_166 v244
  let c8_i32_167 : BitVec 32 := 8#32
  let v278 : BitVec 32 := Scalar.muli v277 c8_i32_167
  v278
def k0_mult6 (k0_t1 : Fin k0_t1_loop.trips) : BitVec 32 :=
  let c32_i32_169 : BitVec 32 := 32#32
  let c31_i32 : BitVec 32 := 31#32
  let c0_i32_15 : BitVec 32 := 0#32
  let c1_i32 : BitVec 32 := 1#32
  let arg16 : BitVec 32 := Scf.iv c0_i32_15 c1_i32 k0_t1
  let v244 : BitVec 32 := Scalar.subi c31_i32 arg16
  let v282 : BitVec 32 := Scalar.addi c32_i32_169 v244
  let c8_i32_170 : BitVec 32 := 8#32
  let v283 : BitVec 32 := Scalar.muli v282 c8_i32_170
  v283
def k0_mult7 (k0_t1 : Fin k0_t1_loop.trips) : BitVec 32 :=
  let c32_i32_172 : BitVec 32 := 32#32
  let c31_i32 : BitVec 32 := 31#32
  let c0_i32_15 : BitVec 32 := 0#32
  let c1_i32 : BitVec 32 := 1#32
  let arg16 : BitVec 32 := Scf.iv c0_i32_15 c1_i32 k0_t1
  let v244 : BitVec 32 := Scalar.subi c31_i32 arg16
  let v295 : BitVec 32 := Scalar.addi c32_i32_172 v244
  let c8_i32_173 : BitVec 32 := 8#32
  let v296 : BitVec 32 := Scalar.muli v295 c8_i32_173
  v296
def k0_mult8 (k0_t1 : Fin k0_t1_loop.trips) : BitVec 32 :=
  let c32_i32_175 : BitVec 32 := 32#32
  let c31_i32 : BitVec 32 := 31#32
  let c0_i32_15 : BitVec 32 := 0#32
  let c1_i32 : BitVec 32 := 1#32
  let arg16 : BitVec 32 := Scf.iv c0_i32_15 c1_i32 k0_t1
  let v244 : BitVec 32 := Scalar.subi c31_i32 arg16
  let v302 : BitVec 32 := Scalar.addi c32_i32_175 v244
  let c8_i32_176 : BitVec 32 := 8#32
  let v303 : BitVec 32 := Scalar.muli v302 c8_i32_176
  v303
@[reducible] def k0_t2_loop : Scf.Loop 32 :=
  let c0_i32_91 : BitVec 32 := 0#32
  let c32_i32_92 : BitVec 32 := 32#32
  let v165 : BitVec 32 := Scalar.addi c0_i32_91 c32_i32_92
  let c1_i32_93 : BitVec 32 := 1#32
  ⟨c0_i32_91, v165, c1_i32_93⟩
def k0_mult9 (k0_t2 : Fin k0_t2_loop.trips) : BitVec 32 :=
  let c0_i32_155 : BitVec 32 := 0#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v245 : BitVec 32 := Scalar.addi c0_i32_155 v244
  let c8_i32 : BitVec 32 := 8#32
  let v246 : BitVec 32 := Scalar.muli v245 c8_i32
  v246
def k0_off3 (k0_t2 : Fin k0_t2_loop.trips) (c0_i32_155 : BitVec 32) : Fin 2 → Nat :=
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v245 : BitVec 32 := Scalar.addi c0_i32_155 v244
  let c8_i32 : BitVec 32 := 8#32
  let v246 : BitVec 32 := Scalar.muli v245 c8_i32
  let v247 : BitVec 32 := v246
  let v248 : Index := Scalar.indexCast v247
  let c0_156 : Index := 0#32
  ![v248.toNat, 0]
def k0_mult10 (k0_t2 : Fin k0_t2_loop.trips) : BitVec 32 :=
  let c0_i32_157 : BitVec 32 := 0#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v250 : BitVec 32 := Scalar.addi c0_i32_157 v244
  let c8_i32_158 : BitVec 32 := 8#32
  let v251 : BitVec 32 := Scalar.muli v250 c8_i32_158
  v251
def k0_off4 (k0_t2 : Fin k0_t2_loop.trips) (c0_i32_157 : BitVec 32) : Fin 2 → Nat :=
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v250 : BitVec 32 := Scalar.addi c0_i32_157 v244
  let c8_i32_158 : BitVec 32 := 8#32
  let v251 : BitVec 32 := Scalar.muli v250 c8_i32_158
  let v252 : BitVec 32 := v251
  let v253 : Index := Scalar.indexCast v252
  let c512_159 : Index := 512#32
  ![v253.toNat, 512]
def k0_mult11 (k0_t2 : Fin k0_t2_loop.trips) : BitVec 32 :=
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let c8_i32_160 : BitVec 32 := 8#32
  let v255 : BitVec 32 := Scalar.muli v244 c8_i32_160
  v255
def k0_off5 (k0_t2 : Fin k0_t2_loop.trips) : Fin 2 → Nat :=
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let c8_i32_160 : BitVec 32 := 8#32
  let v255 : BitVec 32 := Scalar.muli v244 c8_i32_160
  let v256 : BitVec 32 := v255
  let v257 : Index := Scalar.indexCast v256
  let c0_161 : Index := 0#32
  ![v257.toNat, 0]
def k0_mult12 (k0_t2 : Fin k0_t2_loop.trips) : BitVec 32 :=
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let c8_i32_162 : BitVec 32 := 8#32
  let v259 : BitVec 32 := Scalar.muli v244 c8_i32_162
  v259
def k0_off6 (k0_t2 : Fin k0_t2_loop.trips) : Fin 2 → Nat :=
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let c8_i32_162 : BitVec 32 := 8#32
  let v259 : BitVec 32 := Scalar.muli v244 c8_i32_162
  let v260 : BitVec 32 := v259
  let v261 : Index := Scalar.indexCast v260
  let c512_163 : Index := 512#32
  ![v261.toNat, 512]
def k0_mult13 (k0_t2 : Fin k0_t2_loop.trips) : BitVec 32 :=
  let c0_i32_164 : BitVec 32 := 0#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v271 : BitVec 32 := Scalar.addi c0_i32_164 v244
  let c8_i32_165 : BitVec 32 := 8#32
  let v272 : BitVec 32 := Scalar.muli v271 c8_i32_165
  v272
def k0_mult14 (k0_t2 : Fin k0_t2_loop.trips) : BitVec 32 :=
  let c0_i32_167 : BitVec 32 := 0#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v278 : BitVec 32 := Scalar.addi c0_i32_167 v244
  let c8_i32_168 : BitVec 32 := 8#32
  let v279 : BitVec 32 := Scalar.muli v278 c8_i32_168
  v279
def k0_mult15 (k0_t2 : Fin k0_t2_loop.trips) : BitVec 32 :=
  let c32_i32_170 : BitVec 32 := 32#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v285 : BitVec 32 := Scalar.addi c32_i32_170 v244
  let c8_i32_171 : BitVec 32 := 8#32
  let v286 : BitVec 32 := Scalar.muli v285 c8_i32_171
  v286
def k0_mult16 (k0_t2 : Fin k0_t2_loop.trips) : BitVec 32 :=
  let c32_i32_173 : BitVec 32 := 32#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v290 : BitVec 32 := Scalar.addi c32_i32_173 v244
  let c8_i32_174 : BitVec 32 := 8#32
  let v291 : BitVec 32 := Scalar.muli v290 c8_i32_174
  v291
def k0_mult17 (k0_t2 : Fin k0_t2_loop.trips) : BitVec 32 :=
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let c8_i32_176 : BitVec 32 := 8#32
  let v295 : BitVec 32 := Scalar.muli v244 c8_i32_176
  v295
def k0_mult18 (k0_t2 : Fin k0_t2_loop.trips) : BitVec 32 :=
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let c8_i32_178 : BitVec 32 := 8#32
  let v299 : BitVec 32 := Scalar.muli v244 c8_i32_178
  v299
def k0_mult19 (k0_t2 : Fin k0_t2_loop.trips) : BitVec 32 :=
  let c32_i32_180 : BitVec 32 := 32#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v311 : BitVec 32 := Scalar.addi c32_i32_180 v244
  let c8_i32_181 : BitVec 32 := 8#32
  let v312 : BitVec 32 := Scalar.muli v311 c8_i32_181
  v312
def k0_mult20 (k0_t2 : Fin k0_t2_loop.trips) : BitVec 32 :=
  let c32_i32_183 : BitVec 32 := 32#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v318 : BitVec 32 := Scalar.addi c32_i32_183 v244
  let c8_i32_184 : BitVec 32 := 8#32
  let v319 : BitVec 32 := Scalar.muli v318 c8_i32_184
  v319
def k0_mult21 (k0_t2 : Fin k0_t2_loop.trips) : BitVec 32 :=
  let c0_i32_186 : BitVec 32 := 0#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v325 : BitVec 32 := Scalar.addi c0_i32_186 v244
  let c8_i32_187 : BitVec 32 := 8#32
  let v326 : BitVec 32 := Scalar.muli v325 c8_i32_187
  v326
def k0_mult22 (k0_t2 : Fin k0_t2_loop.trips) : BitVec 32 :=
  let c0_i32_189 : BitVec 32 := 0#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v330 : BitVec 32 := Scalar.addi c0_i32_189 v244
  let c8_i32_190 : BitVec 32 := 8#32
  let v331 : BitVec 32 := Scalar.muli v330 c8_i32_190
  v331
def k0_mult23 (k0_t2 : Fin k0_t2_loop.trips) : BitVec 32 :=
  let c32_i32_192 : BitVec 32 := 32#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v343 : BitVec 32 := Scalar.addi c32_i32_192 v244
  let c8_i32_193 : BitVec 32 := 8#32
  let v344 : BitVec 32 := Scalar.muli v343 c8_i32_193
  v344
def k0_mult24 (k0_t2 : Fin k0_t2_loop.trips) : BitVec 32 :=
  let c32_i32_195 : BitVec 32 := 32#32
  let c31_i32 : BitVec 32 := 31#32
  let c0_i32_91 : BitVec 32 := 0#32
  let c1_i32_93 : BitVec 32 := 1#32
  let arg16 : BitVec 32 := Scf.iv c0_i32_91 c1_i32_93 k0_t2
  let v244 : BitVec 32 := Scalar.subi c31_i32 arg16
  let v348 : BitVec 32 := Scalar.addi c32_i32_195 v244
  let c8_i32_196 : BitVec 32 := 8#32
  let v349 : BitVec 32 := Scalar.muli v348 c8_i32_196
  v349
def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v239 : BitVec 32 := Scalar.extui v0
  let c0_i32_153 : BitVec 32 := 0#32
  let v240 : BitVec 1 := Scalar.cmpi .ne v239 c0_i32_153
  v240

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v241 : BitVec 1 := Scalar.xori v0 v_true
  let v242 : BitVec 32 := Scalar.extui v241
  let c0_i32_154 : BitVec 32 := 0#32
  let v243 : BitVec 1 := Scalar.cmpi .ne v242 c0_i32_154
  v243

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg1 c8_i32
  let c7_i32 : BitVec 32 := 7#32
  let v1 : BitVec 32 := Scalar.subi c7_i32 arg1
  let c8_i32_0 : BitVec 32 := 8#32
  let v2 : BitVec 32 := Scalar.select v0 c8_i32_0 v1
  let c0_i32 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg1 c8_i32
  let c7_i32 : BitVec 32 := 7#32
  let v1 : BitVec 32 := Scalar.subi c7_i32 arg1
  let c8_i32_0 : BitVec 32 := 8#32
  let v2 : BitVec 32 := Scalar.select v0 c8_i32_0 v1
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg1 c8_i32
  let c7_i32 : BitVec 32 := 7#32
  let v1 : BitVec 32 := Scalar.subi c7_i32 arg1
  let c8_i32_0 : BitVec 32 := 8#32
  let v2 : BitVec 32 := Scalar.select v0 c8_i32_0 v1
  let c0_i32 : BitVec 32 := 0#32
  ![v2.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg1 c8_i32
  let c7_i32 : BitVec 32 := 7#32
  let v1 : BitVec 32 := Scalar.subi c7_i32 arg1
  let c8_i32_0 : BitVec 32 := 8#32
  let v2 : BitVec 32 := Scalar.select v0 c8_i32_0 v1
  let c0_i32 : BitVec 32 := 0#32
  ![v2.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x72x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4608x1024 : Shape := ⟨2, ![4608, 1024]⟩
abbrev S4608x8192 : Shape := ⟨2, ![4608, 8192]⟩
abbrev S8x128x1024 : Shape := ⟨3, ![8, 128, 1024]⟩
abbrev S8x1024x128 : Shape := ⟨3, ![8, 1024, 128]⟩
abbrev S8x72x1024 : Shape := ⟨3, ![8, 72, 1024]⟩
abbrev S4608x8x1024 : Shape := ⟨3, ![4608, 8, 1024]⟩
abbrev S_ : Shape := ⟨0, ![]⟩
abbrev S8x128x4608 : Shape := ⟨3, ![8, 128, 4608]⟩
abbrev S4608x8x128 : Shape := ⟨3, ![4608, 8, 128]⟩

abbrev nBuf : Space → Nat
  | .hbm => 16
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x8192, .f32⟩
  | .hbm, ⟨2, _⟩ => ⟨S4608x1024, .bf16⟩
  | .hbm, ⟨3, _⟩ => ⟨S8x128x1024, .bf16⟩
  | .hbm, ⟨4, _⟩ => ⟨S8x1024x128, .bf16⟩
  | .hbm, ⟨5, _⟩ => ⟨S8x72x1024, .f32⟩
  | .hbm, ⟨6, _⟩ => ⟨S4608x8x1024, .f32⟩
  | .hbm, ⟨7, _⟩ => ⟨S_, .f32⟩
  | .hbm, ⟨8, _⟩ => ⟨S8x128x1024, .f32⟩
  | .hbm, ⟨9, _⟩ => ⟨S8x128x4608, .f32⟩
  | .hbm, ⟨10, _⟩ => ⟨S4608x8x128, .f32⟩
  | .hbm, ⟨11, _⟩ => ⟨S4608x1024, .f32⟩
  | .hbm, ⟨12, _⟩ => ⟨S4608x1024, .f32⟩
  | .hbm, ⟨13, _⟩ => ⟨S4608x8x128, .f32⟩
  | .hbm, ⟨14, _⟩ => ⟨S8x128x4608, .f32⟩
  | .hbm, ⟨15, _⟩ => ⟨S8x128x1024, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel2.lean ====
abbrev S4608x4096 : Shape := ⟨2, ![4608, 4096]⟩
abbrev S4096x1024 : Shape := ⟨2, ![4096, 1024]⟩
abbrev S4608x1024 : Shape := ⟨2, ![4608, 1024]⟩
abbrev S_ : Shape := ⟨0, ![]⟩
abbrev S1x4096x1024 : Shape := ⟨3, ![1, 4096, 1024]⟩
abbrev S1536x1024 : Shape := ⟨2, ![1536, 1024]⟩
abbrev S1x1024x1024 : Shape := ⟨3, ![1, 1024, 1024]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4608x4096, .f32⟩
  | .hbm, ⟨1, _⟩ => ⟨S4096x1024, .f32⟩
  | .hbm, ⟨2, _⟩ => ⟨S4608x1024, .f32⟩
  | .hbm, ⟨3, _⟩ => ⟨S_, .f32⟩
  | .hbm, ⟨4, _⟩ => ⟨S4608x4096, .f32⟩
  | .hbm, ⟨5, _⟩ => ⟨S4608x4096, .f32⟩
  | .hbm, ⟨6, _⟩ => ⟨S4608x4096, .bf16⟩
  | .hbm, ⟨7, _⟩ => ⟨S4608x1024, .bf16⟩
  | .hbm, ⟨8, _⟩ => ⟨S4096x1024, .bf16⟩
  | .hbm, ⟨9, _⟩ => ⟨S1x4096x1024, .bf16⟩
  | .hbm, ⟨10, _⟩ => ⟨S4608x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .bf16⟩
  | .local _ .vmem, ⟨7, _⟩ => ⟨S1536x1024, .bf16⟩
  | _, _ => ⟨S4608x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4608x4096 : Shape := ⟨2, ![4608, 4096]⟩
abbrev S4096x1024 : Shape := ⟨2, ![4096, 1024]⟩
abbrev S4608x1024 : Shape := ⟨2, ![4608, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4608x4096, .f32⟩
  | .hbm, ⟨1, _⟩ => ⟨S4096x1024, .f32⟩
  | .hbm, ⟨2, _⟩ => ⟨S4608x1024, .f32⟩
  | .hbm, ⟨3, _⟩ => ⟨S_, .f32⟩
  | .hbm, ⟨4, _⟩ => ⟨S4608x4096, .f32⟩
  | .hbm, ⟨5, _⟩ => ⟨S4608x4096, .f32⟩
  | .hbm, ⟨6, _⟩ => ⟨S_, .f32⟩
  | .hbm, ⟨7, _⟩ => ⟨S4608x4096, .f32⟩
  | .hbm, ⟨8, _⟩ => ⟨S4608x4096, .i1⟩
  | .hbm, ⟨9, _⟩ => ⟨S_, .f32⟩
  | .hbm, ⟨10, _⟩ => ⟨S4608x4096, .f32⟩
  | .hbm, ⟨11, _⟩ => ⟨S4608x4096, .f32⟩
  | .hbm, ⟨12, _⟩ => ⟨S_, .f32⟩
  | .hbm, ⟨13, _⟩ => ⟨S4608x4096, .f32⟩
  | .hbm, ⟨14, _⟩ => ⟨S4608x4096, .f32⟩
  | .hbm, ⟨15, _⟩ => ⟨S4608x1024, .f32⟩
  | .hbm, ⟨16, _⟩ => ⟨S4608x4096, .f32⟩
  | .hbm, ⟨17, _⟩ => ⟨S4608x4096, .f32⟩
  | .hbm, ⟨18, _⟩ => ⟨S_, .f32⟩
  | .hbm, ⟨19, _⟩ => ⟨S4608x4096, .f32⟩
  | .hbm, ⟨20, _⟩ => ⟨S4608x4096, .f32⟩
  | .hbm, ⟨21, _⟩ => ⟨S4608x4096, .bf16⟩
  | _, _ => ⟨S4608x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S4608x4096 : Shape := ⟨2, ![4608, 4096]⟩
abbrev S4608x1024 : Shape := ⟨2, ![4608, 1024]⟩
abbrev S_ : Shape := ⟨0, ![]⟩
abbrev S4096x1024 : Shape := ⟨2, ![4096, 1024]⟩
abbrev S1536x1024 : Shape := ⟨2, ![1536, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4608x4096, .f32⟩
  | .hbm, ⟨1, _⟩ => ⟨S4608x1024, .f32⟩
  | .hbm, ⟨2, _⟩ => ⟨S_, .f32⟩
  | .hbm, ⟨3, _⟩ => ⟨S4608x4096, .f32⟩
  | .hbm, ⟨4, _⟩ => ⟨S4608x4096, .f32⟩
  | .hbm, ⟨5, _⟩ => ⟨S4608x4096, .f32⟩
  | .hbm, ⟨6, _⟩ => ⟨S4608x4096, .bf16⟩
  | .hbm, ⟨7, _⟩ => ⟨S4608x1024, .bf16⟩
  | .hbm, ⟨8, _⟩ => ⟨S4096x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4608x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4608x4096 : Shape := ⟨2, ![4608, 4096]⟩
abbrev S4608x1024 : Shape := ⟨2, ![4608, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4608x4096, .f32⟩
  | .hbm, ⟨1, _⟩ => ⟨S4608x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4608x4096, .f32⟩
  | .hbm, ⟨6, _⟩ => ⟨S4608x4096, .f32⟩
  | .hbm, ⟨7, _⟩ => ⟨S4608x4096, .f32⟩
  | .hbm, ⟨8, _⟩ => ⟨S4608x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S4608x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4608x1024 : Shape := ⟨2, ![4608, 1024]⟩
abbrev S4608x4096 : Shape := ⟨2, ![4608, 4096]⟩
abbrev S8x1024x512 : Shape := ⟨3, ![8, 1024, 512]⟩
abbrev S1536x1024 : Shape := ⟨2, ![1536, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4608x1024, .f32⟩
  | .hbm, ⟨1, _⟩ => ⟨S4608x4096, .f32⟩
  | .hbm, ⟨2, _⟩ => ⟨S4608x1024, .bf16⟩
  | .hbm, ⟨3, _⟩ => ⟨S4608x4096, .bf16⟩
  | .hbm, ⟨4, _⟩ => ⟨S8x1024x512, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4608x1024 : Shape := ⟨2, ![4608, 1024]⟩
abbrev S4608x4096 : Shape := ⟨2, ![4608, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x4096, .f32⟩
  | .hbm, ⟨2, _⟩ => ⟨S_, .f32⟩
  | .hbm, ⟨3, _⟩ => ⟨S1024x4096, .f32⟩
  | .hbm, ⟨4, _⟩ => ⟨S4608x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S1024x4096 : Shape := ⟨2, ![1024, 4096]⟩
abbrev S4608x4096 : Shape := ⟨2, ![4608, 4096]⟩
abbrev S1x1024x4096 : Shape := ⟨3, ![1, 1024, 4096]⟩
abbrev S4608x1024 : Shape := ⟨2, ![4608, 1024]⟩
abbrev S768x4096 : Shape := ⟨2, ![768, 4096]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S4608x4096, .f32⟩
  | .hbm, ⟨2, _⟩ => ⟨S4608x4096, .bf16⟩
  | .hbm, ⟨3, _⟩ => ⟨S1024x4096, .bf16⟩
  | .hbm, ⟨4, _⟩ => ⟨S1x1024x4096, .bf16⟩
  | .hbm, ⟨5, _⟩ => ⟨S4608x1024, .f32⟩
  | .local _ .vmem, ⟨0, _⟩ => ⟨S768x4096, .bf16⟩
  | .local _ .vmem, ⟨1, _⟩ => ⟨S768x4096, .bf16⟩
  | .local _ .vmem, ⟨2, _⟩ => ⟨S1x1024x4096, .bf16⟩
  | .local _ .vmem, ⟨3, _⟩ => ⟨S768x1024, .f32⟩
  | .local _ .vmem, ⟨4, _⟩ => ⟨S768x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S1024x4096 : Shape := ⟨2, ![1024, 4096]⟩
abbrev S4608x4096 : Shape := ⟨2, ![4608, 4096]⟩
abbrev S_ : Shape := ⟨0, ![]⟩
abbrev S4608x1024 : Shape := ⟨2, ![4608, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4608x4096, .f32⟩
  | .hbm, ⟨2, _⟩ => ⟨S_, .f32⟩
  | .hbm, ⟨3, _⟩ => ⟨S4608x1024, .f32⟩
  | .hbm, ⟨4, _⟩ => ⟨S4608x4096, .f32⟩
  | .hbm, ⟨5, _⟩ => ⟨S4608x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4608x1024 : Shape := ⟨2, ![4608, 1024]⟩
abbrev S4608x2048 : Shape := ⟨2, ![4608, 2048]⟩
abbrev S8x1024x256 : Shape := ⟨3, ![8, 1024, 256]⟩
abbrev S1536x1024 : Shape := ⟨2, ![1536, 1024]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S4608x1024, .bf16⟩
  | .hbm, ⟨3, _⟩ => ⟨S4608x2048, .bf16⟩
  | .hbm, ⟨4, _⟩ => ⟨S8x1024x256, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S4x1024x256, .bf16⟩
  | .local _ .vmem, ⟨5, _⟩ => ⟨S4x1024x256, .bf16⟩
  | .local _ .vmem, ⟨6, _⟩ => ⟨S1024x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4608x1024 : Shape := ⟨2, ![4608, 1024]⟩
abbrev S4608x2048 : Shape := ⟨2, ![4608, 2048]⟩
abbrev S_ : Shape := ⟨0, ![]⟩
abbrev S1024x2048 : Shape := ⟨2, ![1024, 2048]⟩
abbrev S2048 : Shape := ⟨1, ![2048]⟩
abbrev S1x2048 : Shape := ⟨2, ![1, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 15
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S_, .f32⟩
  | .hbm, ⟨3, _⟩ => ⟨S1024x2048, .f32⟩
  | .hbm, ⟨4, _⟩ => ⟨S_, .f32⟩
  | .hbm, ⟨5, _⟩ => ⟨S2048, .f32⟩
  | .hbm, ⟨6, _⟩ => ⟨S4608x2048, .f32⟩
  | .hbm, ⟨7, _⟩ => ⟨S1x2048, .f32⟩
  | .hbm, ⟨8, _⟩ => ⟨S4608x2048, .f32⟩
  | .hbm, ⟨9, _⟩ => ⟨S4608x2048, .f32⟩
  | .hbm, ⟨10, _⟩ => ⟨S2048x1024, .f32⟩
  | .hbm, ⟨11, _⟩ => ⟨S1024x2048, .f32⟩
  | .hbm, ⟨12, _⟩ => ⟨S1024x8x256, .f32⟩
  | .hbm, ⟨13, _⟩ => ⟨S8x1024x256, .f32⟩
  | .hbm, ⟨14, _⟩ => ⟨S8x1024x256, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S1024x2048 : Shape := ⟨2, ![1024, 2048]⟩
abbrev S4608x2048 : Shape := ⟨2, ![4608, 2048]⟩
abbrev S1x1024x2048 : Shape := ⟨3, ![1, 1024, 2048]⟩
abbrev S4608x1024 : Shape := ⟨2, ![4608, 1024]⟩
abbrev S768x2048 : Shape := ⟨2, ![768, 2048]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S4608x2048, .f32⟩
  | .hbm, ⟨2, _⟩ => ⟨S4608x2048, .bf16⟩
  | .hbm, ⟨3, _⟩ => ⟨S1024x2048, .bf16⟩
  | .hbm, ⟨4, _⟩ => ⟨S1x1024x2048, .bf16⟩
  | .hbm, ⟨5, _⟩ => ⟨S4608x1024, .f32⟩
  | .local _ .vmem, ⟨0, _⟩ => ⟨S768x2048, .bf16⟩
  | .local _ .vmem, ⟨1, _⟩ => ⟨S768x2048, .bf16⟩
  | .local _ .vmem, ⟨2, _⟩ => ⟨S1x1024x2048, .bf16⟩
  | .local _ .vmem, ⟨3, _⟩ => ⟨S768x1024, .f32⟩
  | .local _ .vmem, ⟨4, _⟩ => ⟨S768x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S1024x2048 : Shape := ⟨2, ![1024, 2048]⟩
abbrev S4608x2048 : Shape := ⟨2, ![4608, 2048]⟩
abbrev S_ : Shape := ⟨0, ![]⟩
abbrev S4608x1024 : Shape := ⟨2, ![4608, 1024]⟩
abbrev S2048 : Shape := ⟨1, ![2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4608x2048, .f32⟩
  | .hbm, ⟨2, _⟩ => ⟨S_, .f32⟩
  | .hbm, ⟨3, _⟩ => ⟨S4608x1024, .f32⟩
  | .hbm, ⟨4, _⟩ => ⟨S_, .f32⟩
  | .hbm, ⟨5, _⟩ => ⟨S2048, .f32⟩
  | .hbm, ⟨6, _⟩ => ⟨S4608x2048, .f32⟩
  | .hbm, ⟨7, _⟩ => ⟨S1x2048, .f32⟩
  | .hbm, ⟨8, _⟩ => ⟨S4608x2048, .f32⟩
  | .hbm, ⟨9, _⟩ => ⟨S4608x2048, .f32⟩
  | .hbm, ⟨10, _⟩ => ⟨S4608x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S4608x1024 : Shape := ⟨2, ![4608, 1024]⟩
abbrev S1024x1024 : Shape := ⟨2, ![1024, 1024]⟩
abbrev S1536x1024 : Shape := ⟨2, ![1536, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S4608x1024, .bf16⟩
  | .hbm, ⟨3, _⟩ => ⟨S4608x1024, .bf16⟩
  | .hbm, ⟨4, _⟩ => ⟨S1024x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .bf16⟩
  | .local _ .vmem, ⟨5, _⟩ => ⟨S1024x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S4608x1024 : Shape := ⟨2, ![4608, 1024]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S_, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S4608x1024, .f32⟩
  | .hbm, ⟨7, _⟩ => ⟨S1x1024, .f32⟩
  | .hbm, ⟨8, _⟩ => ⟨S4608x1024, .f32⟩
  | .hbm, ⟨9, _⟩ => ⟨S4608x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel9.lean ====
abbrev S1024x1024 : Shape := ⟨2, ![1024, 1024]⟩
abbrev S4608x1024 : Shape := ⟨2, ![4608, 1024]⟩
abbrev S1x1024x1024 : Shape := ⟨3, ![1, 1024, 1024]⟩
abbrev S1536x1024 : Shape := ⟨2, ![1536, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4608x1024, .f32⟩
  | .hbm, ⟨2, _⟩ => ⟨S4608x1024, .bf16⟩
  | .hbm, ⟨3, _⟩ => ⟨S1024x1024, .bf16⟩
  | .hbm, ⟨4, _⟩ => ⟨S1x1024x1024, .bf16⟩
  | .hbm, ⟨5, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1x1024x1024, .bf16⟩
  | .local _ .vmem, ⟨3, _⟩ => ⟨S1536x1024, .f32⟩
  | .local _ .vmem, ⟨4, _⟩ => ⟨S1536x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S1024x1024 : Shape := ⟨2, ![1024, 1024]⟩
abbrev S4608x1024 : Shape := ⟨2, ![4608, 1024]⟩
abbrev S_ : Shape := ⟨0, ![]⟩
abbrev S1024 : Shape := ⟨1, ![1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4608x1024, .f32⟩
  | .hbm, ⟨2, _⟩ => ⟨S_, .f32⟩
  | .hbm, ⟨3, _⟩ => ⟨S4608x1024, .f32⟩
  | .hbm, ⟨4, _⟩ => ⟨S_, .f32⟩
  | .hbm, ⟨5, _⟩ => ⟨S1024, .f32⟩
  | .hbm, ⟨6, _⟩ => ⟨S4608x1024, .f32⟩
  | .hbm, ⟨7, _⟩ => ⟨S1x1024, .f32⟩
  | .hbm, ⟨8, _⟩ => ⟨S4608x1024, .f32⟩
  | .hbm, ⟨9, _⟩ => ⟨S4608x1024, .f32⟩
  | .hbm, ⟨10, _⟩ => ⟨S4608x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S4608x1024 : Shape := ⟨2, ![4608, 1024]⟩
abbrev S4608x2048 : Shape := ⟨2, ![4608, 2048]⟩
abbrev S8x1024x256 : Shape := ⟨3, ![8, 1024, 256]⟩
abbrev S1536x1024 : Shape := ⟨2, ![1536, 1024]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S4608x1024, .bf16⟩
  | .hbm, ⟨3, _⟩ => ⟨S4608x2048, .bf16⟩
  | .hbm, ⟨4, _⟩ => ⟨S8x1024x256, .bf16⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S4x1024x256, .bf16⟩
  | .local _ .vmem, ⟨5, _⟩ => ⟨S4x1024x256, .bf16⟩
  | .local _ .vmem, ⟨6, _⟩ => ⟨S1024x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S4608x1024 : Shape := ⟨2, ![4608, 1024]⟩
abbrev S4608x2048 : Shape := ⟨2, ![4608, 2048]⟩
abbrev S_ : Shape := ⟨0, ![]⟩
abbrev S1024x2048 : Shape := ⟨2, ![1024, 2048]⟩
abbrev S2048 : Shape := ⟨1, ![2048]⟩
abbrev S1x2048 : Shape := ⟨2, ![1, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 15
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S_, .f32⟩
  | .hbm, ⟨3, _⟩ => ⟨S1024x2048, .f32⟩
  | .hbm, ⟨4, _⟩ => ⟨S_, .f32⟩
  | .hbm, ⟨5, _⟩ => ⟨S2048, .f32⟩
  | .hbm, ⟨6, _⟩ => ⟨S4608x2048, .f32⟩
  | .hbm, ⟨7, _⟩ => ⟨S1x2048, .f32⟩
  | .hbm, ⟨8, _⟩ => ⟨S4608x2048, .f32⟩
  | .hbm, ⟨9, _⟩ => ⟨S4608x2048, .f32⟩
  | .hbm, ⟨10, _⟩ => ⟨S2048x1024, .f32⟩
  | .hbm, ⟨11, _⟩ => ⟨S1024x2048, .f32⟩
  | .hbm, ⟨12, _⟩ => ⟨S1024x8x256, .f32⟩
  | .hbm, ⟨13, _⟩ => ⟨S8x1024x256, .f32⟩
  | .hbm, ⟨14, _⟩ => ⟨S8x1024x256, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel11.lean ====
abbrev S1024x2048 : Shape := ⟨2, ![1024, 2048]⟩
abbrev S4608x2048 : Shape := ⟨2, ![4608, 2048]⟩
abbrev S1x1024x2048 : Shape := ⟨3, ![1, 1024, 2048]⟩
abbrev S4608x1024 : Shape := ⟨2, ![4608, 1024]⟩
abbrev S768x2048 : Shape := ⟨2, ![768, 2048]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S4608x2048, .f32⟩
  | .hbm, ⟨2, _⟩ => ⟨S4608x2048, .bf16⟩
  | .hbm, ⟨3, _⟩ => ⟨S1024x2048, .bf16⟩
  | .hbm, ⟨4, _⟩ => ⟨S1x1024x2048, .bf16⟩
  | .hbm, ⟨5, _⟩ => ⟨S4608x1024, .f32⟩
  | .local _ .vmem, ⟨0, _⟩ => ⟨S768x2048, .bf16⟩
  | .local _ .vmem, ⟨1, _⟩ => ⟨S768x2048, .bf16⟩
  | .local _ .vmem, ⟨2, _⟩ => ⟨S1x1024x2048, .bf16⟩
  | .local _ .vmem, ⟨3, _⟩ => ⟨S768x1024, .f32⟩
  | .local _ .vmem, ⟨4, _⟩ => ⟨S768x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S1024x2048 : Shape := ⟨2, ![1024, 2048]⟩
abbrev S4608x2048 : Shape := ⟨2, ![4608, 2048]⟩
abbrev S_ : Shape := ⟨0, ![]⟩
abbrev S4608x1024 : Shape := ⟨2, ![4608, 1024]⟩
abbrev S2048 : Shape := ⟨1, ![2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4608x2048, .f32⟩
  | .hbm, ⟨2, _⟩ => ⟨S_, .f32⟩
  | .hbm, ⟨3, _⟩ => ⟨S4608x1024, .f32⟩
  | .hbm, ⟨4, _⟩ => ⟨S_, .f32⟩
  | .hbm, ⟨5, _⟩ => ⟨S2048, .f32⟩
  | .hbm, ⟨6, _⟩ => ⟨S4608x2048, .f32⟩
  | .hbm, ⟨7, _⟩ => ⟨S1x2048, .f32⟩
  | .hbm, ⟨8, _⟩ => ⟨S4608x2048, .f32⟩
  | .hbm, ⟨9, _⟩ => ⟨S4608x2048, .f32⟩
  | .hbm, ⟨10, _⟩ => ⟨S4608x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S4608x1024 : Shape := ⟨2, ![4608, 1024]⟩
abbrev S1024x4096 : Shape := ⟨2, ![1024, 4096]⟩
abbrev S1x1024x4096 : Shape := ⟨3, ![1, 1024, 4096]⟩
abbrev S4608x4096 : Shape := ⟨2, ![4608, 4096]⟩
abbrev S1536x1024 : Shape := ⟨2, ![1536, 1024]⟩
abbrev S1x1024x1024 : Shape := ⟨3, ![1, 1024, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4608x1024, .f32⟩
  | .hbm, ⟨1, _⟩ => ⟨S1024x4096, .f32⟩
  | .hbm, ⟨2, _⟩ => ⟨S4608x1024, .bf16⟩
  | .hbm, ⟨3, _⟩ => ⟨S1024x4096, .bf16⟩
  | .hbm, ⟨4, _⟩ => ⟨S1x1024x4096, .bf16⟩
  | .hbm, ⟨5, _⟩ => ⟨S4608x4096, .bf16⟩
  | .hbm, ⟨6, _⟩ => ⟨S4608x4096, .bf16⟩
  | .local _ .vmem, ⟨0, _⟩ => ⟨S1536x1024, .bf16⟩
  | .local _ .vmem, ⟨1, _⟩ => ⟨S1536x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .bf16⟩
  | .local _ .vmem, ⟨7, _⟩ => ⟨S1536x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4608x1024 : Shape := ⟨2, ![4608, 1024]⟩
abbrev S1024x4096 : Shape := ⟨2, ![1024, 4096]⟩
abbrev S4608x4096 : Shape := ⟨2, ![4608, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x4096, .f32⟩
  | .hbm, ⟨2, _⟩ => ⟨S4608x4096, .f32⟩
  | .hbm, ⟨3, _⟩ => ⟨S_, .f32⟩
  | .hbm, ⟨4, _⟩ => ⟨S4608x4096, .f32⟩
  | .hbm, ⟨5, _⟩ => ⟨S4608x4096, .f32⟩
  | .hbm, ⟨6, _⟩ => ⟨S4608x4096, .f32⟩
  | .hbm, ⟨7, _⟩ => ⟨S4608x4096, .bf16⟩
  | .hbm, ⟨8, _⟩ => ⟨S4608x4096, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel13.lean ====
abbrev S4608x4096 : Shape := ⟨2, ![4608, 4096]⟩
abbrev S4096x1024 : Shape := ⟨2, ![4096, 1024]⟩
abbrev S1x4096x1024 : Shape := ⟨3, ![1, 4096, 1024]⟩
abbrev S4608x1024 : Shape := ⟨2, ![4608, 1024]⟩
abbrev S768x4096 : Shape := ⟨2, ![768, 4096]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4608x4096, .f32⟩
  | .hbm, ⟨1, _⟩ => ⟨S4096x1024, .f32⟩
  | .hbm, ⟨2, _⟩ => ⟨S4608x4096, .bf16⟩
  | .hbm, ⟨3, _⟩ => ⟨S4096x1024, .bf16⟩
  | .hbm, ⟨4, _⟩ => ⟨S1x4096x1024, .bf16⟩
  | .hbm, ⟨5, _⟩ => ⟨S4608x1024, .f32⟩
  | .local _ .vmem, ⟨0, _⟩ => ⟨S768x4096, .bf16⟩
  | .local _ .vmem, ⟨1, _⟩ => ⟨S768x4096, .bf16⟩
  | .local _ .vmem, ⟨2, _⟩ => ⟨S1x4096x1024, .bf16⟩
  | .local _ .vmem, ⟨3, _⟩ => ⟨S768x1024, .f32⟩
  | .local _ .vmem, ⟨4, _⟩ => ⟨S768x1024, .f32⟩
  | _, _ => ⟨S4608x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4608x4096 : Shape := ⟨2, ![4608, 4096]⟩
abbrev S4096x1024 : Shape := ⟨2, ![4096, 1024]⟩
abbrev S4608x1024 : Shape := ⟨2, ![4608, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4608x4096, .f32⟩
  | .hbm, ⟨1, _⟩ => ⟨S4096x1024, .f32⟩
  | .hbm, ⟨2, _⟩ => ⟨S4608x1024, .f32⟩
  | _, _ => ⟨S4608x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S4608x1024 : Shape := ⟨2, ![4608, 1024]⟩
abbrev S1024x2048 : Shape := ⟨2, ![1024, 2048]⟩
abbrev S1x1024x2048 : Shape := ⟨3, ![1, 1024, 2048]⟩
abbrev S4608x2048 : Shape := ⟨2, ![4608, 2048]⟩
abbrev S1536x1024 : Shape := ⟨2, ![1536, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4608x1024, .f32⟩
  | .hbm, ⟨1, _⟩ => ⟨S1024x2048, .f32⟩
  | .hbm, ⟨2, _⟩ => ⟨S4608x1024, .bf16⟩
  | .hbm, ⟨3, _⟩ => ⟨S1024x2048, .bf16⟩
  | .hbm, ⟨4, _⟩ => ⟨S1x1024x2048, .bf16⟩
  | .hbm, ⟨5, _⟩ => ⟨S4608x2048, .f32⟩
  | .local _ .vmem, ⟨0, _⟩ => ⟨S1536x1024, .bf16⟩
  | .local _ .vmem, ⟨1, _⟩ => ⟨S1536x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1536x1024, .f32⟩
  | .local _ .vmem, ⟨5, _⟩ => ⟨S1536x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4608x1024 : Shape := ⟨2, ![4608, 1024]⟩
abbrev S1024x2048 : Shape := ⟨2, ![1024, 2048]⟩
abbrev S4608x2048 : Shape := ⟨2, ![4608, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x2048, .f32⟩
  | .hbm, ⟨2, _⟩ => ⟨S4608x2048, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S4608x1024 : Shape := ⟨2, ![4608, 1024]⟩
abbrev S1024x2048 : Shape := ⟨2, ![1024, 2048]⟩
abbrev S1x1024x2048 : Shape := ⟨3, ![1, 1024, 2048]⟩
abbrev S4608x2048 : Shape := ⟨2, ![4608, 2048]⟩
abbrev S1536x1024 : Shape := ⟨2, ![1536, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4608x1024, .f32⟩
  | .hbm, ⟨1, _⟩ => ⟨S1024x2048, .f32⟩
  | .hbm, ⟨2, _⟩ => ⟨S4608x1024, .bf16⟩
  | .hbm, ⟨3, _⟩ => ⟨S1024x2048, .bf16⟩
  | .hbm, ⟨4, _⟩ => ⟨S1x1024x2048, .bf16⟩
  | .hbm, ⟨5, _⟩ => ⟨S4608x2048, .f32⟩
  | .local _ .vmem, ⟨0, _⟩ => ⟨S1536x1024, .bf16⟩
  | .local _ .vmem, ⟨1, _⟩ => ⟨S1536x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1536x1024, .f32⟩
  | .local _ .vmem, ⟨5, _⟩ => ⟨S1536x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4608x1024 : Shape := ⟨2, ![4608, 1024]⟩
abbrev S1024x2048 : Shape := ⟨2, ![1024, 2048]⟩
abbrev S4608x2048 : Shape := ⟨2, ![4608, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x2048, .f32⟩
  | .hbm, ⟨2, _⟩ => ⟨S4608x2048, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S4608x1024 : Shape := ⟨2, ![4608, 1024]⟩
abbrev S1024x1024 : Shape := ⟨2, ![1024, 1024]⟩
abbrev S1x1024x1024 : Shape := ⟨3, ![1, 1024, 1024]⟩
abbrev S1536x1024 : Shape := ⟨2, ![1536, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4608x1024, .f32⟩
  | .hbm, ⟨1, _⟩ => ⟨S1024x1024, .f32⟩
  | .hbm, ⟨2, _⟩ => ⟨S4608x1024, .bf16⟩
  | .hbm, ⟨3, _⟩ => ⟨S1024x1024, .bf16⟩
  | .hbm, ⟨4, _⟩ => ⟨S1x1024x1024, .bf16⟩
  | .hbm, ⟨5, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1x1024x1024, .bf16⟩
  | .local _ .vmem, ⟨3, _⟩ => ⟨S1536x1024, .f32⟩
  | .local _ .vmem, ⟨4, _⟩ => ⟨S1536x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4608x1024 : Shape := ⟨2, ![4608, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024x1024, .f32⟩
  | .hbm, ⟨2, _⟩ => ⟨S4608x1024, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel17.lean ====
abbrev S4608x2048 : Shape := ⟨2, ![4608, 2048]⟩
abbrev S2048 : Shape := ⟨1, ![2048]⟩
abbrev S1x2048 : Shape := ⟨2, ![1, 2048]⟩
abbrev S4608x1024 : Shape := ⟨2, ![4608, 1024]⟩
abbrev S256x2048 : Shape := ⟨2, ![256, 2048]⟩
abbrev S256x1024 : Shape := ⟨2, ![256, 1024]⟩
abbrev S1x1024 : Shape := ⟨2, ![1, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4608x2048, .f32⟩
  | .hbm, ⟨1, _⟩ => ⟨S2048, .f32⟩
  | .hbm, ⟨2, _⟩ => ⟨S1x2048, .f32⟩
  | .hbm, ⟨3, _⟩ => ⟨S4608x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x1024, .f32⟩
  | .local _ .vmem, ⟨4, _⟩ => ⟨S256x1024, .f32⟩
  | _, _ => ⟨S4608x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S4608x2048 : Shape := ⟨2, ![4608, 2048]⟩
abbrev S2048 : Shape := ⟨1, ![2048]⟩
abbrev S1x2048 : Shape := ⟨2, ![1, 2048]⟩
abbrev S4608x1024 : Shape := ⟨2, ![4608, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4608x2048, .f32⟩
  | .hbm, ⟨1, _⟩ => ⟨S2048, .f32⟩
  | .hbm, ⟨2, _⟩ => ⟨S1x2048, .f32⟩
  | .hbm, ⟨3, _⟩ => ⟨S4608x2048, .f32⟩
  | .hbm, ⟨4, _⟩ => ⟨S4608x2048, .f32⟩
  | .hbm, ⟨5, _⟩ => ⟨S4608x1024, .f32⟩
  | .hbm, ⟨6, _⟩ => ⟨S4608x1024, .f32⟩
  | .hbm, ⟨7, _⟩ => ⟨S4608x1024, .f32⟩
  | .hbm, ⟨8, _⟩ => ⟨S4608x1024, .f32⟩
  | .hbm, ⟨9, _⟩ => ⟨S_, .f32⟩
  | .hbm, ⟨10, _⟩ => ⟨S4608x1024, .f32⟩
  | .hbm, ⟨11, _⟩ => ⟨S4608x1024, .f32⟩
  | .hbm, ⟨12, _⟩ => ⟨S_, .f32⟩
  | .hbm, ⟨13, _⟩ => ⟨S4608x1024, .f32⟩
  | .hbm, ⟨14, _⟩ => ⟨S4608x1024, .f32⟩
  | .hbm, ⟨15, _⟩ => ⟨S4608x1024, .f32⟩
  | _, _ => ⟨S4608x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel18.lean ====
abbrev S4608x1024 : Shape := ⟨2, ![4608, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S4608x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4608x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S4608x1024 : Shape := ⟨2, ![4608, 1024]⟩
abbrev S1024 : Shape := ⟨1, ![1024]⟩
abbrev S1x1024 : Shape := ⟨2, ![1, 1024]⟩
abbrev S_ : Shape := ⟨0, ![]⟩
abbrev S4608 : Shape := ⟨1, ![4608]⟩
abbrev S4608x1 : Shape := ⟨2, ![4608, 1]⟩

abbrev nBuf : Space → Nat
  | .hbm => 46
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S4608x1024, .f32⟩
  | .hbm, ⟨6, _⟩ => ⟨S4608x1024, .f32⟩
  | .hbm, ⟨7, _⟩ => ⟨S_, .f32⟩
  | .hbm, ⟨8, _⟩ => ⟨S4608, .f32⟩
  | .hbm, ⟨9, _⟩ => ⟨S4608x1, .f32⟩
  | .hbm, ⟨10, _⟩ => ⟨S_, .f32⟩
  | .hbm, ⟨11, _⟩ => ⟨S4608x1, .f32⟩
  | .hbm, ⟨12, _⟩ => ⟨S4608x1, .f32⟩
  | .hbm, ⟨13, _⟩ => ⟨S4608x1024, .f32⟩
  | .hbm, ⟨14, _⟩ => ⟨S4608x1024, .f32⟩
  | .hbm, ⟨15, _⟩ => ⟨S4608x1024, .f32⟩
  | .hbm, ⟨16, _⟩ => ⟨S_, .f32⟩
  | .hbm, ⟨17, _⟩ => ⟨S4608, .f32⟩
  | .hbm, ⟨18, _⟩ => ⟨S4608x1, .f32⟩
  | .hbm, ⟨19, _⟩ => ⟨S_, .f32⟩
  | .hbm, ⟨20, _⟩ => ⟨S4608x1, .f32⟩
  | .hbm, ⟨21, _⟩ => ⟨S4608x1, .f32⟩
  | .hbm, ⟨22, _⟩ => ⟨S4608x1024, .f32⟩
  | .hbm, ⟨23, _⟩ => ⟨S4608x1024, .f32⟩
  | .hbm, ⟨24, _⟩ => ⟨S_, .f32⟩
  | .hbm, ⟨25, _⟩ => ⟨S4608x1, .f32⟩
  | .hbm, ⟨26, _⟩ => ⟨S4608x1, .f32⟩
  | .hbm, ⟨27, _⟩ => ⟨S4608x1, .f32⟩
  | .hbm, ⟨28, _⟩ => ⟨S4608x1024, .f32⟩
  | .hbm, ⟨29, _⟩ => ⟨S4608x1024, .f32⟩
  | .hbm, ⟨30, _⟩ => ⟨S1x1024, .f32⟩
  | .hbm, ⟨31, _⟩ => ⟨S4608x1024, .f32⟩
  | .hbm, ⟨32, _⟩ => ⟨S4608x1024, .f32⟩
  | .hbm, ⟨33, _⟩ => ⟨S1x1024, .f32⟩
  | .hbm, ⟨34, _⟩ => ⟨S4608x1024, .f32⟩
  | .hbm, ⟨35, _⟩ => ⟨S4608x1024, .f32⟩
  | .hbm, ⟨36, _⟩ => ⟨S4608x1024, .f32⟩
  | .hbm, ⟨37, _⟩ => ⟨S4608x1024, .f32⟩
  | .hbm, ⟨38, _⟩ => ⟨S_, .f32⟩
  | .hbm, ⟨39, _⟩ => ⟨S4608x1024, .f32⟩
  | .hbm, ⟨40, _⟩ => ⟨S4608x1024, .f32⟩
  | .hbm, ⟨41, _⟩ => ⟨S_, .f32⟩
  | .hbm, ⟨42, _⟩ => ⟨S4608x1024, .f32⟩
  | .hbm, ⟨43, _⟩ => ⟨S4608x1024, .f32⟩
  | .hbm, ⟨44, _⟩ => ⟨S4608x1024, .f32⟩
  | .hbm, ⟨45, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel19.lean ====
abbrev S4608x2048 : Shape := ⟨2, ![4608, 2048]⟩
abbrev S2048 : Shape := ⟨1, ![2048]⟩
abbrev S4608x1024 : Shape := ⟨2, ![4608, 1024]⟩
abbrev S1x2048 : Shape := ⟨2, ![1, 2048]⟩
abbrev S256x2048 : Shape := ⟨2, ![256, 2048]⟩
abbrev S256x1024 : Shape := ⟨2, ![256, 1024]⟩
abbrev S1x1024 : Shape := ⟨2, ![1, 1024]⟩
abbrev S1024 : Shape := ⟨1, ![1024]⟩

abbrev nBuf : Space → Nat
  | .hbm => 6
  | .vmem => 8
  | .smem => 0
  | _ => 0

abbrev bufTy : (tb : Table) → Fin (tcTables nBuf tb) → BufTy
  | .hbm, ⟨0, _⟩ => ⟨S4608x2048, .f32⟩
  | .hbm, ⟨1, _⟩ => ⟨S2048, .f32⟩
  | .hbm, ⟨2, _⟩ => ⟨S4608x1024, .f32⟩
  | .hbm, ⟨3, _⟩ => ⟨S1x2048, .f32⟩
  | .hbm, ⟨4, _⟩ => ⟨S4608x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4608x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_14 : BitVec 32 := 0#32
  let v39 : BitVec 1 := Scalar.cmpi .ne v38 c0_i32_14
  v39

def k0_cond2 (i : grid0.Coords) : BitVec 1 :=
  let arg0 : BitVec 32 := BitVec.ofNat 32 (i 0).val
  let c0_i32 : BitVec 32 := 0#32
  let v37 : BitVec 1 := Scalar.cmpi .eq arg0 c0_i32
  let v_true : BitVec 1 := 1#1
  let v40 : BitVec 1 := Scalar.xori v37 v_true
  let v41 : BitVec 32 := Scalar.extui v40
  let c0_i32_15 : BitVec 32 := 0#32
  let v42 : BitVec 1 := Scalar.cmpi .ne v41 c0_i32_15
  v42

def cc0_transform_0 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_1 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference19Ideal.lean ====
abbrev S4608x2048 : Shape := ⟨2, ![4608, 2048]⟩
abbrev S2048 : Shape := ⟨1, ![2048]⟩
abbrev S4608x1024 : Shape := ⟨2, ![4608, 1024]⟩
abbrev S1x2048 : Shape := ⟨2, ![1, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4608x2048, .f32⟩
  | .hbm, ⟨1, _⟩ => ⟨S2048, .f32⟩
  | .hbm, ⟨2, _⟩ => ⟨S4608x1024, .f32⟩
  | .hbm, ⟨3, _⟩ => ⟨S1x2048, .f32⟩
  | .hbm, ⟨4, _⟩ => ⟨S4608x2048, .f32⟩
  | .hbm, ⟨5, _⟩ => ⟨S4608x2048, .f32⟩
  | .hbm, ⟨6, _⟩ => ⟨S4608x1024, .f32⟩
  | .hbm, ⟨7, _⟩ => ⟨S4608x1024, .f32⟩
  | .hbm, ⟨8, _⟩ => ⟨S4608x1024, .f32⟩
  | .hbm, ⟨9, _⟩ => ⟨S4608x1024, .f32⟩
  | .hbm, ⟨10, _⟩ => ⟨S_, .f32⟩
  | .hbm, ⟨11, _⟩ => ⟨S4608x1024, .f32⟩
  | .hbm, ⟨12, _⟩ => ⟨S4608x1024, .f32⟩
  | .hbm, ⟨13, _⟩ => ⟨S_, .f32⟩
  | .hbm, ⟨14, _⟩ => ⟨S4608x1024, .f32⟩
  | .hbm, ⟨15, _⟩ => ⟨S4608x1024, .f32⟩
  | .hbm, ⟨16, _⟩ => ⟨S_, .f32⟩
  | .hbm, ⟨17, _⟩ => ⟨S4608x1024, .f32⟩
  | .hbm, ⟨18, _⟩ => ⟨S4608x1024, .f32⟩
  | .hbm, ⟨19, _⟩ => ⟨S4608x1024, .f32⟩
  | .hbm, ⟨20, _⟩ => ⟨S4608x1024, .f32⟩
  | .hbm, ⟨21, _⟩ => ⟨S4608x1024, .f32⟩
  | .hbm, ⟨22, _⟩ => ⟨S4608x1024, .f32⟩
  | .hbm, ⟨23, _⟩ => ⟨S4608x1024, .f32⟩
  | .hbm, ⟨24, _⟩ => ⟨S_, .f32⟩
  | .hbm, ⟨25, _⟩ => ⟨S4608x2048, .f32⟩
  | .hbm, ⟨26, _⟩ => ⟨S_, .f32⟩
  | .hbm, ⟨27, _⟩ => ⟨S4608x2048, .f32⟩
  | .hbm, ⟨28, _⟩ => ⟨S4608x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S_, .f32⟩
  | .hbm, ⟨33, _⟩ => ⟨S2048, .f32⟩
  | .hbm, ⟨34, _⟩ => ⟨S4608x2048, .bf16⟩
  | .hbm, ⟨35, _⟩ => ⟨S1x2048, .f32⟩
  | _, _ => ⟨S4608x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel20.lean ====
abbrev S4608x1024 : Shape := ⟨2, ![4608, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 12
  | .smem => 0
  | _ => 0

abbrev bufTy : (tb : Table) → Fin (tcTables nBuf tb) → BufTy
  | .hbm, ⟨0, _⟩ => ⟨S4608x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S4608x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4608x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v85 : BitVec 1 := Scalar.cmpi .eq arg0 c0_i32
  let v86 : BitVec 32 := Scalar.extui v85
  let c0_i32_31 : BitVec 32 := 0#32
  let v87 : BitVec 1 := Scalar.cmpi .ne v86 c0_i32_31
  v87

def k0_cond2 (i : grid0.Coords) : BitVec 1 :=
  let arg0 : BitVec 32 := BitVec.ofNat 32 (i 0).val
  let c0_i32 : BitVec 32 := 0#32
  let v85 : BitVec 1 := Scalar.cmpi .eq arg0 c0_i32
  let v_true : BitVec 1 := 1#1
  let v88 : BitVec 1 := Scalar.xori v85 v_true
  let v89 : BitVec 32 := Scalar.extui v88
  let c0_i32_32 : BitVec 32 := 0#32
  let v90 : BitVec 1 := Scalar.cmpi .ne v89 c0_i32_32
  v90

def k0_cond3 (i : grid0.Coords) : BitVec 1 :=
  let arg0 : BitVec 32 := BitVec.ofNat 32 (i 0).val
  let c0_i32_33 : BitVec 32 := 0#32
  let v91 : BitVec 1 := Scalar.cmpi .eq arg0 c0_i32_33
  let v92 : BitVec 32 := Scalar.extui v91
  let c0_i32_34 : BitVec 32 := 0#32
  let v93 : BitVec 1 := Scalar.cmpi .ne v92 c0_i32_34
  v93

def k0_cond4 (i : grid0.Coords) : BitVec 1 :=
  let arg0 : BitVec 32 := BitVec.ofNat 32 (i 0).val
  let c0_i32_33 : BitVec 32 := 0#32
  let v91 : BitVec 1 := Scalar.cmpi .eq arg0 c0_i32_33
  let true_35 : BitVec 1 := 1#1
  let v94 : BitVec 1 := Scalar.xori v91 true_35
  let v95 : BitVec 32 := Scalar.extui v94
  let c0_i32_36 : BitVec 32 := 0#32
  let v96 : BitVec 1 := Scalar.cmpi .ne v95 c0_i32_36
  v96

def k0_cond5 (i : grid0.Coords) : BitVec 1 :=
  let arg0 : BitVec 32 := BitVec.ofNat 32 (i 0).val
  let c0_i32_37 : BitVec 32 := 0#32
  let v97 : BitVec 1 := Scalar.cmpi .eq arg0 c0_i32_37
  let v98 : BitVec 32 := Scalar.extui v97
  let c0_i32_38 : BitVec 32 := 0#32
  let v99 : BitVec 1 := Scalar.cmpi .ne v98 c0_i32_38
  v99

def k0_cond6 (i : grid0.Coords) : BitVec 1 :=
  let arg0 : BitVec 32 := BitVec.ofNat 32 (i 0).val
  let c0_i32_37 : BitVec 32 := 0#32
  let v97 : BitVec 1 := Scalar.cmpi .eq arg0 c0_i32_37
  let true_39 : BitVec 1 := 1#1
  let v100 : BitVec 1 := Scalar.xori v97 true_39
  let v101 : BitVec 32 := Scalar.extui v100
  let c0_i32_40 : BitVec 32 := 0#32
  let v102 : BitVec 1 := Scalar.cmpi .ne v101 c0_i32_40
  v102

def cc0_transform_0 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_1 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference20Ideal.lean ====
abbrev S4608x1024 : Shape := ⟨2, ![4608, 1024]⟩
abbrev S1024 : Shape := ⟨1, ![1024]⟩
abbrev S1x1024 : Shape := ⟨2, ![1, 1024]⟩
abbrev S_ : Shape := ⟨0, ![]⟩
abbrev S4608 : Shape := ⟨1, ![4608]⟩
abbrev S4608x1 : Shape := ⟨2, ![4608, 1]⟩

abbrev nBuf : Space → Nat
  | .hbm => 113
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S4608x1024, .f32⟩
  | .hbm, ⟨5, _⟩ => ⟨S1x1024, .f32⟩
  | .hbm, ⟨6, _⟩ => ⟨S4608x1024, .f32⟩
  | .hbm, ⟨7, _⟩ => ⟨S4608x1024, .f32⟩
  | .hbm, ⟨8, _⟩ => ⟨S_, .f32⟩
  | .hbm, ⟨9, _⟩ => ⟨S4608, .f32⟩
  | .hbm, ⟨10, _⟩ => ⟨S4608x1, .f32⟩
  | .hbm, ⟨11, _⟩ => ⟨S_, .f32⟩
  | .hbm, ⟨12, _⟩ => ⟨S4608x1, .f32⟩
  | .hbm, ⟨13, _⟩ => ⟨S4608x1, .f32⟩
  | .hbm, ⟨14, _⟩ => ⟨S4608x1024, .f32⟩
  | .hbm, ⟨15, _⟩ => ⟨S4608x1024, .f32⟩
  | .hbm, ⟨16, _⟩ => ⟨S4608x1024, .f32⟩
  | .hbm, ⟨17, _⟩ => ⟨S_, .f32⟩
  | .hbm, ⟨18, _⟩ => ⟨S4608x1024, .f32⟩
  | .hbm, ⟨19, _⟩ => ⟨S4608x1024, .f32⟩
  | .hbm, ⟨20, _⟩ => ⟨S_, .f32⟩
  | .hbm, ⟨21, _⟩ => ⟨S4608, .f32⟩
  | .hbm, ⟨22, _⟩ => ⟨S4608x1, .f32⟩
  | .hbm, ⟨23, _⟩ => ⟨S_, .f32⟩
  | .hbm, ⟨24, _⟩ => ⟨S4608x1, .f32⟩
  | .hbm, ⟨25, _⟩ => ⟨S4608x1, .f32⟩
  | .hbm, ⟨26, _⟩ => ⟨S4608x1024, .f32⟩
  | .hbm, ⟨27, _⟩ => ⟨S4608x1024, .f32⟩
  | .hbm, ⟨28, _⟩ => ⟨S_, .f32⟩
  | .hbm, ⟨29, _⟩ => ⟨S4608x1, .f32⟩
  | .hbm, ⟨30, _⟩ => ⟨S4608x1, .f32⟩
  | .hbm, ⟨31, _⟩ => ⟨S4608x1, .f32⟩
  | .hbm, ⟨32, _⟩ => ⟨S4608x1, .f32⟩
  | .hbm, ⟨33, _⟩ => ⟨S_, .f32⟩
  | .hbm, ⟨34, _⟩ => ⟨S4608x1, .f32⟩
  | .hbm, ⟨35, _⟩ => ⟨S4608x1, .f32⟩
  | .hbm, ⟨36, _⟩ => ⟨S4608x1024, .f32⟩
  | .hbm, ⟨37, _⟩ => ⟨S4608x1024, .f32⟩
  | .hbm, ⟨38, _⟩ => ⟨S1x1024, .f32⟩
  | .hbm, ⟨39, _⟩ => ⟨S4608x1024, .f32⟩
  | .hbm, ⟨40, _⟩ => ⟨S4608x1024, .f32⟩
  | .hbm, ⟨41, _⟩ => ⟨S1x1024, .f32⟩
  | .hbm, ⟨42, _⟩ => ⟨S4608x1024, .f32⟩
  | .hbm, ⟨43, _⟩ => ⟨S4608x1024, .f32⟩
  | .hbm, ⟨44, _⟩ => ⟨S4608x1024, .f32⟩
  | .hbm, ⟨45, _⟩ => ⟨S4608x1024, .f32⟩
  | .hbm, ⟨46, _⟩ => ⟨S_, .f32⟩
  | .hbm, ⟨47, _⟩ => ⟨S4608x1024, .f32⟩
  | .hbm, ⟨48, _⟩ => ⟨S4608x1024, .f32⟩
  | .hbm, ⟨49, _⟩ => ⟨S_, .f32⟩
  | .hbm, ⟨50, _⟩ => ⟨S4608x1024, .f32⟩
  | .hbm, ⟨51, _⟩ => ⟨S4608x1024, .f32⟩
  | .hbm, ⟨52, _⟩ => ⟨S_, .f32⟩
  | .hbm, ⟨53, _⟩ => ⟨S4608x1024, .f32⟩
  | .hbm, ⟨54, _⟩ => ⟨S4608x1024, .f32⟩
  | .hbm, ⟨55, _⟩ => ⟨S4608x1024, .f32⟩
  | .hbm, ⟨56, _⟩ => ⟨S4608x1024, .f32⟩
  | .hbm, ⟨57, _⟩ => ⟨S4608x1024, .f32⟩
  | .hbm, ⟨58, _⟩ => ⟨S4608x1024, .f32⟩
  | .hbm, ⟨59, _⟩ => ⟨S4608x1024, .f32⟩
  | .hbm, ⟨60, _⟩ => ⟨S4608x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S4608x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4608x1024, .f32⟩
  | .hbm, ⟨71, _⟩ => ⟨S4608x1024, .f32⟩
  | .hbm, ⟨72, _⟩ => ⟨S_, .f32⟩
  | .hbm, ⟨73, _⟩ => ⟨S1024, .f32⟩
  | .hbm, ⟨74, _⟩ => ⟨S4608x1024, .f32⟩
  | .hbm, ⟨75, _⟩ => ⟨S_, .f32⟩
  | .hbm, ⟨76, _⟩ => ⟨S4608, .f32⟩
  | .hbm, ⟨77, _⟩ => ⟨S4608x1, .f32⟩
  | .hbm, ⟨78, _⟩ => ⟨S4608x1024, .f32⟩
  | .hbm, ⟨79, _⟩ => ⟨S4608x1024, .f32⟩
  | .hbm, ⟨80, _⟩ => ⟨S4608x1, .f32⟩
  | .hbm, ⟨81, _⟩ => ⟨S4608x1024, .f32⟩
  | .hbm, ⟨82, _⟩ => ⟨S_, .f32⟩
  | .hbm, ⟨83, _⟩ => ⟨S4608, .f32⟩
  | .hbm, ⟨84, _⟩ => ⟨S4608x1, .f32⟩
  | .hbm, ⟨85, _⟩ => ⟨S_, .f32⟩
  | .hbm, ⟨86, _⟩ => ⟨S4608x1, .f32⟩
  | .hbm, ⟨87, _⟩ => ⟨S4608x1, .f32⟩
  | .hbm, ⟨88, _⟩ => ⟨S_, .f32⟩
  | .hbm, ⟨89, _⟩ => ⟨S4608, .f32⟩
  | .hbm, ⟨90, _⟩ => ⟨S4608x1024, .f32⟩
  | .hbm, ⟨91, _⟩ => ⟨S4608x1024, .f32⟩
  | .hbm, ⟨92, _⟩ => ⟨S4608x1024, .f32⟩
  | .hbm, ⟨93, _⟩ => ⟨S_, .f32⟩
  | .hbm, ⟨94, _⟩ => ⟨S4608, .f32⟩
  | .hbm, ⟨95, _⟩ => ⟨S4608x1, .f32⟩
  | .hbm, ⟨96, _⟩ => ⟨S4608x1024, .f32⟩
  | .hbm, ⟨97, _⟩ => ⟨S4608x1, .f32⟩
  | .hbm, ⟨98, _⟩ => ⟨S_, .f32⟩
  | .hbm, ⟨99, _⟩ => ⟨S4608x1, .f32⟩
  | .hbm, ⟨100, _⟩ => ⟨S4608x1, .f32⟩
  | .hbm, ⟨101, _⟩ => ⟨S_, .f32⟩
  | .hbm, ⟨102, _⟩ => ⟨S4608, .f32⟩
  | .hbm, ⟨103, _⟩ => ⟨S4608x1024, .f32⟩
  | .hbm, ⟨104, _⟩ => ⟨S4608x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S_, .f32⟩
  | .hbm, ⟨109, _⟩ => ⟨S1024, .f32⟩
  | .hbm, ⟨110, _⟩ => ⟨S1x1024, .f32⟩
  | .hbm, ⟨111, _⟩ => ⟨S1x1024, .f32⟩
  | .hbm, ⟨112, _⟩ => ⟨S1x1024, .f32⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v32_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v32_1 : Ref sig .tc := ⟨.hbm, 55, rfl⟩
abbrev main_v32_0 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_cst_7 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_cst_12 : Ref sig .tc := ⟨.hbm, 85, rfl⟩
abbrev main_v52 : Ref sig .tc := ⟨.hbm, 86, rfl⟩
abbrev main_v53 : Ref sig .tc := ⟨.hbm, 87, rfl⟩
abbrev main_cst_13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_15 : Ref sig .tc := ⟨.hbm, 98, rfl⟩
abbrev main_v62 : Ref sig .tc := ⟨.hbm, 99, rfl⟩
abbrev main_v63 : Ref sig .tc := ⟨.hbm, 100, rfl⟩
abbrev main_cst_16 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_17 : Ref sig .tc := ⟨.hbm, 105, rfl⟩
abbrev main_v67 : Ref sig .tc := ⟨.hbm, 106, rfl⟩
abbrev main_v68 : Ref sig .tc := ⟨.hbm, 107, rfl⟩
abbrev main_cst_18 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]
-- ==== Kernel21.lean ====
abbrev S4608x1024 : Shape := ⟨2, ![4608, 1024]⟩
abbrev S3x1x1024 : Shape := ⟨3, ![3, 1, 1024]⟩
abbrev S1024 : Shape := ⟨1, ![1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S3x1x1024, .f32⟩
  | .hbm, ⟨3, _⟩ => ⟨S3x1x1024, .f32⟩
  | .hbm, ⟨4, _⟩ => ⟨S3x1x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4608x1024, .f32⟩
  | .hbm, ⟨12, _⟩ => ⟨S4608x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_1 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_9 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference21Ideal.lean ====
abbrev S4608x1024 : Shape := ⟨2, ![4608, 1024]⟩
abbrev S3x1x1024 : Shape := ⟨3, ![3, 1, 1024]⟩
abbrev S1024 : Shape := ⟨1, ![1024]⟩
abbrev S1x1024 : Shape := ⟨2, ![1, 1024]⟩
abbrev S_ : Shape := ⟨0, ![]⟩
abbrev S2x1x1024 : Shape := ⟨3, ![2, 1, 1024]⟩
abbrev S1x2x1x1024 : Shape := ⟨4, ![1, 2, 1, 1024]⟩
abbrev S8x2x256x1024 : Shape := ⟨4, ![8, 2, 256, 1024]⟩
abbrev S4096x1024 : Shape := ⟨2, ![4096, 1024]⟩
abbrev S1x1x1024 : Shape := ⟨3, ![1, 1, 1024]⟩
abbrev S512x1024 : Shape := ⟨2, ![512, 1024]⟩
abbrev S4608 : Shape := ⟨1, ![4608]⟩
abbrev S4608x1 : Shape := ⟨2, ![4608, 1]⟩

abbrev nBuf : Space → Nat
  | .hbm => 75
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S3x1x1024, .f32⟩
  | .hbm, ⟨3, _⟩ => ⟨S3x1x1024, .f32⟩
  | .hbm, ⟨4, _⟩ => ⟨S3x1x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S4608x1024, .f32⟩
  | .hbm, ⟨10, _⟩ => ⟨S4608x1024, .f32⟩
  | .hbm, ⟨11, _⟩ => ⟨S_, .f32⟩
  | .hbm, ⟨12, _⟩ => ⟨S4608x1024, .f32⟩
  | .hbm, ⟨13, _⟩ => ⟨S4608x1024, .f32⟩
  | .hbm, ⟨14, _⟩ => ⟨S2x1x1024, .f32⟩
  | .hbm, ⟨15, _⟩ => ⟨S1x2x1x1024, .f32⟩
  | .hbm, ⟨16, _⟩ => ⟨S8x2x256x1024, .f32⟩
  | .hbm, ⟨17, _⟩ => ⟨S4096x1024, .f32⟩
  | .hbm, ⟨18, _⟩ => ⟨S1x1x1024, .f32⟩
  | .hbm, ⟨19, _⟩ => ⟨S1x1024, .f32⟩
  | .hbm, ⟨20, _⟩ => ⟨S512x1024, .f32⟩
  | .hbm, ⟨21, _⟩ => ⟨S4608x1024, .f32⟩
  | .hbm, ⟨22, _⟩ => ⟨S4608x1024, .f32⟩
  | .hbm, ⟨23, _⟩ => ⟨S4608x1024, .f32⟩
  | .hbm, ⟨24, _⟩ => ⟨S_, .f32⟩
  | .hbm, ⟨25, _⟩ => ⟨S4608, .f32⟩
  | .hbm, ⟨26, _⟩ => ⟨S4608x1, .f32⟩
  | .hbm, ⟨27, _⟩ => ⟨S_, .f32⟩
  | .hbm, ⟨28, _⟩ => ⟨S4608x1, .f32⟩
  | .hbm, ⟨29, _⟩ => ⟨S4608x1, .f32⟩
  | .hbm, ⟨30, _⟩ => ⟨S4608x1024, .f32⟩
  | .hbm, ⟨31, _⟩ => ⟨S4608x1024, .f32⟩
  | .hbm, ⟨32, _⟩ => ⟨S4608x1024, .f32⟩
  | .hbm, ⟨33, _⟩ => ⟨S_, .f32⟩
  | .hbm, ⟨34, _⟩ => ⟨S4608, .f32⟩
  | .hbm, ⟨35, _⟩ => ⟨S4608x1, .f32⟩
  | .hbm, ⟨36, _⟩ => ⟨S_, .f32⟩
  | .hbm, ⟨37, _⟩ => ⟨S4608x1, .f32⟩
  | .hbm, ⟨38, _⟩ => ⟨S4608x1, .f32⟩
  | .hbm, ⟨39, _⟩ => ⟨S4608x1024, .f32⟩
  | .hbm, ⟨40, _⟩ => ⟨S4608x1024, .f32⟩
  | .hbm, ⟨41, _⟩ => ⟨S_, .f32⟩
  | .hbm, ⟨42, _⟩ => ⟨S4608x1, .f32⟩
  | .hbm, ⟨43, _⟩ => ⟨S4608x1, .f32⟩
  | .hbm, ⟨44, _⟩ => ⟨S4608x1, .f32⟩
  | .hbm, ⟨45, _⟩ => ⟨S4608x1024, .f32⟩
  | .hbm, ⟨46, _⟩ => ⟨S4608x1024, .f32⟩
  | .hbm, ⟨47, _⟩ => ⟨S1x1024, .f32⟩
  | .hbm, ⟨48, _⟩ => ⟨S4608x1024, .f32⟩
  | .hbm, ⟨49, _⟩ => ⟨S4608x1024, .f32⟩
  | .hbm, ⟨50, _⟩ => ⟨S1x1024, .f32⟩
  | .hbm, ⟨51, _⟩ => ⟨S4608x1024, .f32⟩
  | .hbm, ⟨52, _⟩ => ⟨S4608x1024, .f32⟩
  | .hbm, ⟨53, _⟩ => ⟨S2x1x1024, .f32⟩
  | .hbm, ⟨54, _⟩ => ⟨S1x2x1x1024, .f32⟩
  | .hbm, ⟨55, _⟩ => ⟨S8x2x256x1024, .f32⟩
  | .hbm, ⟨56, _⟩ => ⟨S4096x1024, .f32⟩
  | .hbm, ⟨57, _⟩ => ⟨S1x1x1024, .f32⟩
  | .hbm, ⟨58, _⟩ => ⟨S1x1024, .f32⟩
  | .hbm, ⟨59, _⟩ => ⟨S512x1024, .f32⟩
  | .hbm, ⟨60, _⟩ => ⟨S4608x1024, .f32⟩
  | .hbm, ⟨61, _⟩ => ⟨S_, .f32⟩
  | .hbm, ⟨62, _⟩ => ⟨S4608x1024, .f32⟩
  | .hbm, ⟨63, _⟩ => ⟨S4608x1024, .f32⟩
  | .hbm, ⟨64, _⟩ => ⟨S4608x1024, .f32⟩
  | .hbm, ⟨65, _⟩ => ⟨S2x1x1024, .f32⟩
  | .hbm, ⟨66, _⟩ => ⟨S1x2x1x1024, .f32⟩
  | .hbm, ⟨67, _⟩ => ⟨S8x2x256x1024, .f32⟩
  | .hbm, ⟨68, _⟩ => ⟨S4096x1024, .f32⟩
  | .hbm, ⟨69, _⟩ => ⟨S1x1x1024, .f32⟩
  | .hbm, ⟨70, _⟩ => ⟨S1x1024, .f32⟩
  | .hbm, ⟨71, _⟩ => ⟨S512x1024, .f32⟩
  | .hbm, ⟨72, _⟩ => ⟨S4608x1024, .f32⟩
  | .hbm, ⟨73, _⟩ => ⟨S4608x1024, .f32⟩
  | .hbm, ⟨74, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Kernel22.lean ====
abbrev S4608x1024 : Shape := ⟨2, ![4608, 1024]⟩
abbrev S4608x2048 : Shape := ⟨2, ![4608, 2048]⟩
abbrev S3x1x1024 : Shape := ⟨3, ![3, 1, 1024]⟩
abbrev S2048 : Shape := ⟨1, ![2048]⟩
abbrev S1024 : Shape := ⟨1, ![1024]⟩
abbrev S1x2048 : Shape := ⟨2, ![1, 2048]⟩
abbrev S1x1024 : Shape := ⟨2, ![1, 1024]⟩
abbrev S256x1024 : Shape := ⟨2, ![256, 1024]⟩
abbrev S256x2048 : Shape := ⟨2, ![256, 2048]⟩
abbrev S1x1x1024 : Shape := ⟨3, ![1, 1, 1024]⟩
abbrev S256 : Shape := ⟨1, ![256]⟩
abbrev S256x1 : Shape := ⟨2, ![256, 1]⟩

abbrev nBuf : Space → Nat
  | .hbm => 13
  | .vmem => 17
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S3x1x1024, .f32⟩
  | .hbm, ⟨3, _⟩ => ⟨S3x1x1024, .f32⟩
  | .hbm, ⟨4, _⟩ => ⟨S3x1x1024, .f32⟩
  | .hbm, ⟨5, _⟩ => ⟨S2048, .f32⟩
  | .hbm, ⟨6, _⟩ => ⟨S1024, .f32⟩
  | .hbm, ⟨7, _⟩ => ⟨S1024, .f32⟩
  | .hbm, ⟨8, _⟩ => ⟨S1x2048, .f32⟩
  | .hbm, ⟨9, _⟩ => ⟨S1x1024, .f32⟩
  | .hbm, ⟨10, _⟩ => ⟨S1x1024, .f32⟩
  | .hbm, ⟨11, _⟩ => ⟨S4608x1024, .f32⟩
  | .hbm, ⟨12, _⟩ => ⟨S4608x1024, .bf16⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x2048, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_1 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_9 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference22Ideal.lean ====
abbrev S4608x1024 : Shape := ⟨2, ![4608, 1024]⟩
abbrev S4608x2048 : Shape := ⟨2, ![4608, 2048]⟩
abbrev S3x1x1024 : Shape := ⟨3, ![3, 1, 1024]⟩
abbrev S2048 : Shape := ⟨1, ![2048]⟩
abbrev S1024 : Shape := ⟨1, ![1024]⟩
abbrev S1x2048 : Shape := ⟨2, ![1, 2048]⟩
abbrev S_ : Shape := ⟨0, ![]⟩
abbrev S2x1x1024 : Shape := ⟨3, ![2, 1, 1024]⟩
abbrev S1x2x1x1024 : Shape := ⟨4, ![1, 2, 1, 1024]⟩
abbrev S8x2x256x1024 : Shape := ⟨4, ![8, 2, 256, 1024]⟩
abbrev S4096x1024 : Shape := ⟨2, ![4096, 1024]⟩
abbrev S1x1x1024 : Shape := ⟨3, ![1, 1, 1024]⟩
abbrev S1x1024 : Shape := ⟨2, ![1, 1024]⟩
abbrev S512x1024 : Shape := ⟨2, ![512, 1024]⟩
abbrev S4608 : Shape := ⟨1, ![4608]⟩
abbrev S4608x1 : Shape := ⟨2, ![4608, 1]⟩

abbrev nBuf : Space → Nat
  | .hbm => 86
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x2048, .f32⟩
  | .hbm, ⟨2, _⟩ => ⟨S3x1x1024, .f32⟩
  | .hbm, ⟨3, _⟩ => ⟨S3x1x1024, .f32⟩
  | .hbm, ⟨4, _⟩ => ⟨S3x1x1024, .f32⟩
  | .hbm, ⟨5, _⟩ => ⟨S2048, .f32⟩
  | .hbm, ⟨6, _⟩ => ⟨S1024, .f32⟩
  | .hbm, ⟨7, _⟩ => ⟨S1024, .f32⟩
  | .hbm, ⟨8, _⟩ => ⟨S1x2048, .f32⟩
  | .hbm, ⟨9, _⟩ => ⟨S4608x2048, .f32⟩
  | .hbm, ⟨10, _⟩ => ⟨S4608x2048, .f32⟩
  | .hbm, ⟨11, _⟩ => ⟨S4608x1024, .f32⟩
  | .hbm, ⟨12, _⟩ => ⟨S4608x1024, .f32⟩
  | .hbm, ⟨13, _⟩ => ⟨S4608x1024, .f32⟩
  | .hbm, ⟨14, _⟩ => ⟨S4608x1024, .f32⟩
  | .hbm, ⟨15, _⟩ => ⟨S_, .f32⟩
  | .hbm, ⟨16, _⟩ => ⟨S4608x1024, .f32⟩
  | .hbm, ⟨17, _⟩ => ⟨S4608x1024, .f32⟩
  | .hbm, ⟨18, _⟩ => ⟨S_, .f32⟩
  | .hbm, ⟨19, _⟩ => ⟨S4608x1024, .f32⟩
  | .hbm, ⟨20, _⟩ => ⟨S4608x1024, .f32⟩
  | .hbm, ⟨21, _⟩ => ⟨S4608x1024, .f32⟩
  | .hbm, ⟨22, _⟩ => ⟨S_, .f32⟩
  | .hbm, ⟨23, _⟩ => ⟨S4608x1024, .f32⟩
  | .hbm, ⟨24, _⟩ => ⟨S4608x1024, .f32⟩
  | .hbm, ⟨25, _⟩ => ⟨S2x1x1024, .f32⟩
  | .hbm, ⟨26, _⟩ => ⟨S1x2x1x1024, .f32⟩
  | .hbm, ⟨27, _⟩ => ⟨S8x2x256x1024, .f32⟩
  | .hbm, ⟨28, _⟩ => ⟨S4096x1024, .f32⟩
  | .hbm, ⟨29, _⟩ => ⟨S1x1x1024, .f32⟩
  | .hbm, ⟨30, _⟩ => ⟨S1x1024, .f32⟩
  | .hbm, ⟨31, _⟩ => ⟨S512x1024, .f32⟩
  | .hbm, ⟨32, _⟩ => ⟨S4608x1024, .f32⟩
  | .hbm, ⟨33, _⟩ => ⟨S4608x1024, .f32⟩
  | .hbm, ⟨34, _⟩ => ⟨S4608x1024, .f32⟩
  | .hbm, ⟨35, _⟩ => ⟨S_, .f32⟩
  | .hbm, ⟨36, _⟩ => ⟨S4608, .f32⟩
  | .hbm, ⟨37, _⟩ => ⟨S4608x1, .f32⟩
  | .hbm, ⟨38, _⟩ => ⟨S_, .f32⟩
  | .hbm, ⟨39, _⟩ => ⟨S4608x1, .f32⟩
  | .hbm, ⟨40, _⟩ => ⟨S4608x1, .f32⟩
  | .hbm, ⟨41, _⟩ => ⟨S4608x1024, .f32⟩
  | .hbm, ⟨42, _⟩ => ⟨S4608x1024, .f32⟩
  | .hbm, ⟨43, _⟩ => ⟨S4608x1024, .f32⟩
  | .hbm, ⟨44, _⟩ => ⟨S_, .f32⟩
  | .hbm, ⟨45, _⟩ => ⟨S4608, .f32⟩
  | .hbm, ⟨46, _⟩ => ⟨S4608x1, .f32⟩
  | .hbm, ⟨47, _⟩ => ⟨S_, .f32⟩
  | .hbm, ⟨48, _⟩ => ⟨S4608x1, .f32⟩
  | .hbm, ⟨49, _⟩ => ⟨S4608x1, .f32⟩
  | .hbm, ⟨50, _⟩ => ⟨S4608x1024, .f32⟩
  | .hbm, ⟨51, _⟩ => ⟨S4608x1024, .f32⟩
  | .hbm, ⟨52, _⟩ => ⟨S_, .f32⟩
  | .hbm, ⟨53, _⟩ => ⟨S4608x1, .f32⟩
  | .hbm, ⟨54, _⟩ => ⟨S4608x1, .f32⟩
  | .hbm, ⟨55, _⟩ => ⟨S4608x1, .f32⟩
  | .hbm, ⟨56, _⟩ => ⟨S4608x1024, .f32⟩
  | .hbm, ⟨57, _⟩ => ⟨S4608x1024, .f32⟩
  | .hbm, ⟨58, _⟩ => ⟨S1x1024, .f32⟩
  | .hbm, ⟨59, _⟩ => ⟨S4608x1024, .f32⟩
  | .hbm, ⟨60, _⟩ => ⟨S4608x1024, .f32⟩
  | .hbm, ⟨61, _⟩ => ⟨S1x1024, .f32⟩
  | .hbm, ⟨62, _⟩ => ⟨S4608x1024, .f32⟩
  | .hbm, ⟨63, _⟩ => ⟨S4608x1024, .f32⟩
  | .hbm, ⟨64, _⟩ => ⟨S2x1x1024, .f32⟩
  | .hbm, ⟨65, _⟩ => ⟨S1x2x1x1024, .f32⟩
  | .hbm, ⟨66, _⟩ => ⟨S8x2x256x1024, .f32⟩
  | .hbm, ⟨67, _⟩ => ⟨S4096x1024, .f32⟩
  | .hbm, ⟨68, _⟩ => ⟨S1x1x1024, .f32⟩
  | .hbm, ⟨69, _⟩ => ⟨S1x1024, .f32⟩
  | .hbm, ⟨70, _⟩ => ⟨S512x1024, .f32⟩
  | .hbm, ⟨71, _⟩ => ⟨S4608x1024, .f32⟩
  | .hbm, ⟨72, _⟩ => ⟨S_, .f32⟩
  | .hbm, ⟨73, _⟩ => ⟨S4608x1024, .f32⟩
  | .hbm, ⟨74, _⟩ => ⟨S4608x1024, .f32⟩
  | .hbm, ⟨75, _⟩ => ⟨S4608x1024, .f32⟩
  | .hbm, ⟨76, _⟩ => ⟨S2x1x1024, .f32⟩
  | .hbm, ⟨77, _⟩ => ⟨S1x2x1x1024, .f32⟩
  | .hbm, ⟨78, _⟩ => ⟨S8x2x256x1024, .f32⟩
  | .hbm, ⟨79, _⟩ => ⟨S4096x1024, .f32⟩
  | .hbm, ⟨80, _⟩ => ⟨S1x1x1024, .f32⟩
  | .hbm, ⟨81, _⟩ => ⟨S1x1024, .f32⟩
  | .hbm, ⟨82, _⟩ => ⟨S512x1024, .f32⟩
  | .hbm, ⟨83, _⟩ => ⟨S4608x1024, .f32⟩
  | .hbm, ⟨84, _⟩ => ⟨S4608x1024, .f32⟩
  | .hbm, ⟨85, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Kernel23.lean ====
abbrev S4608x1024 : Shape := ⟨2, ![4608, 1024]⟩
abbrev S3x1x1024 : Shape := ⟨3, ![3, 1, 1024]⟩
abbrev S1024 : Shape := ⟨1, ![1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S3x1x1024, .f32⟩
  | .hbm, ⟨3, _⟩ => ⟨S3x1x1024, .f32⟩
  | .hbm, ⟨4, _⟩ => ⟨S3x1x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S4608x1024, .f32⟩
  | .hbm, ⟨10, _⟩ => ⟨S4608x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_1 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

def cc0_transform_8 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.muli v10 c2_i32
  let c8_i32_3 : BitVec 32 := 8#32
  let v12 : BitVec 32 := Scalar.divsi arg0 c8_i32_3
  let c0_i32_4 : BitVec 32 := 0#32
  let v13 : BitVec 1 := Scalar.cmpi .sgt arg0 c0_i32_4
  let v14 : BitVec 32 := Scalar.extui v13
  let c0_i32_5 : BitVec 32 := 0#32
  let v15 : BitVec 1 := Scalar.cmpi .slt arg0 c0_i32_5
  let v16 : BitVec 32 := Scalar.extui v15
  let v17 : BitVec 32 := Scalar.subi v14 v16
  let c0_i32_6 : BitVec 32 := 0#32
  let v18 : BitVec 1 := Scalar.cmpi .sgt c8_i32_3 c0_i32_6
  let v19 : BitVec 32 := Scalar.extui v18
  let c0_i32_7 : BitVec 32 := 0#32
  let v20 : BitVec 1 := Scalar.cmpi .slt c8_i32_3 c0_i32_7
  let v21 : BitVec 32 := Scalar.extui v20
  let v22 : BitVec 32 := Scalar.subi v19 v21
  let v23 : BitVec 1 := Scalar.cmpi .ne v17 v22
  let v24 : BitVec 32 := Scalar.remsi arg0 c8_i32_3
  let c0_i32_8 : BitVec 32 := 0#32
  let v25 : BitVec 1 := Scalar.cmpi .ne v24 c0_i32_8
  let v26 : BitVec 1 := Scalar.andi v23 v25
  let c1_i32_9 : BitVec 32 := 1#32
  let v27 : BitVec 32 := Scalar.subi v12 c1_i32_9
  let v28 : BitVec 32 := Scalar.select v26 v27 v12
  let v29 : BitVec 32 := Scalar.addi v11 v28
  let v30 : BitVec 32 := Scalar.select v0 v29 arg0
  let c0_i32_10 : BitVec 32 := 0#32
  let c0_i32_11 : BitVec 32 := 0#32
  ![v30.toNat, c0_i32_10.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S4608x1024 : Shape := ⟨2, ![4608, 1024]⟩
abbrev S3x1x1024 : Shape := ⟨3, ![3, 1, 1024]⟩
abbrev S1024 : Shape := ⟨1, ![1024]⟩
abbrev S_ : Shape := ⟨0, ![]⟩
abbrev S2x1x1024 : Shape := ⟨3, ![2, 1, 1024]⟩
abbrev S1x2x1x1024 : Shape := ⟨4, ![1, 2, 1, 1024]⟩
abbrev S8x2x256x1024 : Shape := ⟨4, ![8, 2, 256, 1024]⟩
abbrev S4096x1024 : Shape := ⟨2, ![4096, 1024]⟩
abbrev S1x1x1024 : Shape := ⟨3, ![1, 1, 1024]⟩
abbrev S1x1024 : Shape := ⟨2, ![1, 1024]⟩
abbrev S512x1024 : Shape := ⟨2, ![512, 1024]⟩
abbrev S4608 : Shape := ⟨1, ![4608]⟩
abbrev S4608x1 : Shape := ⟨2, ![4608, 1]⟩

abbrev nBuf : Space → Nat
  | .hbm => 71
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S4608x1024, .f32⟩
  | .hbm, ⟨2, _⟩ => ⟨S3x1x1024, .f32⟩
  | .hbm, ⟨3, _⟩ => ⟨S3x1x1024, .f32⟩
  | .hbm, ⟨4, _⟩ => ⟨S3x1x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S4608x1024, .f32⟩
  | .hbm, ⟨9, _⟩ => ⟨S4608x1024, .f32⟩
  | .hbm, ⟨10, _⟩ => ⟨S2x1x1024, .f32⟩
  | .hbm, ⟨11, _⟩ => ⟨S1x2x1x1024, .f32⟩
  | .hbm, ⟨12, _⟩ => ⟨S8x2x256x1024, .f32⟩
  | .hbm, ⟨13, _⟩ => ⟨S4096x1024, .f32⟩
  | .hbm, ⟨14, _⟩ => ⟨S1x1x1024, .f32⟩
  | .hbm, ⟨15, _⟩ => ⟨S1x1024, .f32⟩
  | .hbm, ⟨16, _⟩ => ⟨S512x1024, .f32⟩
  | .hbm, ⟨17, _⟩ => ⟨S4608x1024, .f32⟩
  | .hbm, ⟨18, _⟩ => ⟨S4608x1024, .f32⟩
  | .hbm, ⟨19, _⟩ => ⟨S4608x1024, .f32⟩
  | .hbm, ⟨20, _⟩ => ⟨S_, .f32⟩
  | .hbm, ⟨21, _⟩ => ⟨S4608, .f32⟩
  | .hbm, ⟨22, _⟩ => ⟨S4608x1, .f32⟩
  | .hbm, ⟨23, _⟩ => ⟨S_, .f32⟩
  | .hbm, ⟨24, _⟩ => ⟨S4608x1, .f32⟩
  | .hbm, ⟨25, _⟩ => ⟨S4608x1, .f32⟩
  | .hbm, ⟨26, _⟩ => ⟨S4608x1024, .f32⟩
  | .hbm, ⟨27, _⟩ => ⟨S4608x1024, .f32⟩
  | .hbm, ⟨28, _⟩ => ⟨S4608x1024, .f32⟩
  | .hbm, ⟨29, _⟩ => ⟨S_, .f32⟩
  | .hbm, ⟨30, _⟩ => ⟨S4608, .f32⟩
  | .hbm, ⟨31, _⟩ => ⟨S4608x1, .f32⟩
  | .hbm, ⟨32, _⟩ => ⟨S_, .f32⟩
  | .hbm, ⟨33, _⟩ => ⟨S4608x1, .f32⟩
  | .hbm, ⟨34, _⟩ => ⟨S4608x1, .f32⟩
  | .hbm, ⟨35, _⟩ => ⟨S4608x1024, .f32⟩
  | .hbm, ⟨36, _⟩ => ⟨S4608x1024, .f32⟩
  | .hbm, ⟨37, _⟩ => ⟨S_, .f32⟩
  | .hbm, ⟨38, _⟩ => ⟨S4608x1, .f32⟩
  | .hbm, ⟨39, _⟩ => ⟨S4608x1, .f32⟩
  | .hbm, ⟨40, _⟩ => ⟨S4608x1, .f32⟩
  | .hbm, ⟨41, _⟩ => ⟨S4608x1024, .f32⟩
  | .hbm, ⟨42, _⟩ => ⟨S4608x1024, .f32⟩
  | .hbm, ⟨43, _⟩ => ⟨S1x1024, .f32⟩
  | .hbm, ⟨44, _⟩ => ⟨S4608x1024, .f32⟩
  | .hbm, ⟨45, _⟩ => ⟨S4608x1024, .f32⟩
  | .hbm, ⟨46, _⟩ => ⟨S1x1024, .f32⟩
  | .hbm, ⟨47, _⟩ => ⟨S4608x1024, .f32⟩
  | .hbm, ⟨48, _⟩ => ⟨S4608x1024, .f32⟩
  | .hbm, ⟨49, _⟩ => ⟨S2x1x1024, .f32⟩
  | .hbm, ⟨50, _⟩ => ⟨S1x2x1x1024, .f32⟩
  | .hbm, ⟨51, _⟩ => ⟨S8x2x256x1024, .f32⟩
  | .hbm, ⟨52, _⟩ => ⟨S4096x1024, .f32⟩
  | .hbm, ⟨53, _⟩ => ⟨S1x1x1024, .f32⟩
  | .hbm, ⟨54, _⟩ => ⟨S1x1024, .f32⟩
  | .hbm, ⟨55, _⟩ => ⟨S512x1024, .f32⟩
  | .hbm, ⟨56, _⟩ => ⟨S4608x1024, .f32⟩
  | .hbm, ⟨57, _⟩ => ⟨S_, .f32⟩
  | .hbm, ⟨58, _⟩ => ⟨S4608x1024, .f32⟩
  | .hbm, ⟨59, _⟩ => ⟨S4608x1024, .f32⟩
  | .hbm, ⟨60, _⟩ => ⟨S4608x1024, .f32⟩
  | .hbm, ⟨61, _⟩ => ⟨S2x1x1024, .f32⟩
  | .hbm, ⟨62, _⟩ => ⟨S1x2x1x1024, .f32⟩
  | .hbm, ⟨63, _⟩ => ⟨S8x2x256x1024, .f32⟩
  | .hbm, ⟨64, _⟩ => ⟨S4096x1024, .f32⟩
  | .hbm, ⟨65, _⟩ => ⟨S1x1x1024, .f32⟩
  | .hbm, ⟨66, _⟩ => ⟨S1x1024, .f32⟩
  | .hbm, ⟨67, _⟩ => ⟨S512x1024, .f32⟩
  | .hbm, ⟨68, _⟩ => ⟨S4608x1024, .f32⟩
  | .hbm, ⟨69, _⟩ => ⟨S4608x1024, .f32⟩
  | .hbm, ⟨70, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Proof.S5Run.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.ReadBack
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- A load of a whole memref held at given contents reads them. -/
theorem readAt_all {sp : Space} {S : Shape} {e : EltTy} {m : Memref sig .tc sp S e} (h : m.IsWhole) (X : Vec F S e) {off : Fin S.rank → ℕ}
    (inb : ∀ a, off a + S.size a ≤ S.size a) :
    View.readAt (Elt F) m.view (Rect.unit off S.size inb).toLoadRect (h.unread X) = X := by
  funext x
  refine (h.readAt_unread X _ x).trans (congrArg X ?_)
  funext a
  apply Fin.ext
  have := inb a
  show off a + 1 * (x a).val = (x a).val
  omega

/-- The condition of the first tile of a slab. -/
abbrev cond1 (i : grid0.Coords) : Prop := (Scalar.cmpi .ne (Scalar.extui (Scalar.cmpi .eq (BitVec.ofNat 32 (i 1).val) 0#32)) 0#32) = 1#1

theorem cond1_iff : ∀ t : Fin cfg0.N, cond1 (grid0.coords t) ↔ t.val % 9 = 0 :=
  (by decide +kernel : ∀ t : Fin grid0.N, cond1 (grid0.coords t) ↔ t.val % 9 = 0)
theorem cond2_iff : ∀ t : Fin cfg0.N, k0_cond2 (grid0.coords t) = 1#1 ↔ t.val % 9 = 0 :=
  (by decide +kernel : ∀ t : Fin grid0.N, k0_cond2 (grid0.coords t) = 1#1 ↔ t.val % 9 = 0)
theorem cond3_iff : ∀ t : Fin cfg0.N, k0_cond3 (grid0.coords t) = 1#1 ↔ ¬ t.val % 9 = 0 :=
  (by decide +kernel : ∀ t : Fin grid0.N, k0_cond3 (grid0.coords t) = 1#1 ↔ ¬ t.val % 9 = 0)

set_option maxHeartbeats 4000000 in
/-- The body at the first tile of a slab: the readout's gradient block is the tile's product, stored over anything. -/
theorem runA (c : Dev nD) (i : grid0.Coords) (arg2 : Memref sig .tc .vmem S512x128 .bf16) (harg2 : arg2.IsWhole) (arg3 : Memref sig .tc .vmem S512x1024 .f32) (harg3 : arg3.IsWhole) (arg4 : Memref sig .tc .vmem S512x128 .bf16) (harg4 : arg4.IsWhole) (arg5 : Memref sig .tc .vmem S1x128x1024 .bf16) (harg5 : arg5.IsWhole) (arg6 : Memref sig .tc .vmem S1x1024x128 .bf16) (harg6 : arg6.IsWhole) (arg7 : Memref sig .tc .vmem S1x72x1024 .f32) (harg7 : arg7.IsWhole) (arg8 : Memref sig .tc .vmem S512x128 .f32) (harg8 : arg8.IsWhole) (arg9 : Memref sig .tc .vmem S1x128x1024 .f32) (harg9 : arg9.IsWhole) (arg10 : Memref sig .tc .vmem S1x128x1024 .f32) (harg10 : arg10.IsWhole) (arg11 : Memref sig .tc .vmem S1x8x1024 .f32) (harg11 : arg11.IsWhole) (arg12 : Memref sig .tc .vmem S512x1024 .f32) (harg12 : arg12.IsWhole) (arg13 : Memref sig .tc .vmem S16x1024 .f32) (harg13 : arg13.IsWhole) (arg14 : Memref sig .tc .vmem S512x128 .f32) (harg14 : arg14.IsWhole) (arg15 : Memref sig .tc .vmem S256x1024 .f32) (harg15 : arg15.IsWhole)
    (hc1 : cond1 i) (hc2 : k0_cond2 i = 1#1) (hc3 : ¬ k0_cond3 i = 1#1)
    (x2 : Vec F S512x128 .bf16) (x3 : Vec F S512x1024 .f32) (x4 : Vec F S512x128 .bf16) (x5 : Vec F S1x128x1024 .bf16) (x6 : Vec F S1x1024x128 .bf16) (x7 : Vec F S1x72x1024 .f32)
    (E : Set ℕ) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare (k0_pay2 (k0_pay133 x2 x3)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_s5_bwd0_0 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_s5_bwd0_0_eq_skeleton]; unfold cc0_s5_bwd0_0_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _; isplitr; swap; · iexact H10
    ipureintro
    refine (View.read_writes_full _ _ _ _ _).trans ?_
    unfold runA.sl.r_31 runA.sl.r
    rw [readAt_all harg2, readAt_all harg3]
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

set_option maxHeartbeats 4000000 in
/-- The body at a later tile of a slab: the tile's product added to the block as it stood. -/
theorem runB (c : Dev nD) (i : grid0.Coords) (arg2 : Memref sig .tc .vmem S512x128 .bf16) (harg2 : arg2.IsWhole) (arg3 : Memref sig .tc .vmem S512x1024 .f32) (harg3 : arg3.IsWhole) (arg4 : Memref sig .tc .vmem S512x128 .bf16) (harg4 : arg4.IsWhole) (arg5 : Memref sig .tc .vmem S1x128x1024 .bf16) (harg5 : arg5.IsWhole) (arg6 : Memref sig .tc .vmem S1x1024x128 .bf16) (harg6 : arg6.IsWhole) (arg7 : Memref sig .tc .vmem S1x72x1024 .f32) (harg7 : arg7.IsWhole) (arg8 : Memref sig .tc .vmem S512x128 .f32) (harg8 : arg8.IsWhole) (arg9 : Memref sig .tc .vmem S1x128x1024 .f32) (harg9 : arg9.IsWhole) (arg10 : Memref sig .tc .vmem S1x128x1024 .f32) (harg10 : arg10.IsWhole) (arg11 : Memref sig .tc .vmem S1x8x1024 .f32) (harg11 : arg11.IsWhole) (arg12 : Memref sig .tc .vmem S512x1024 .f32) (harg12 : arg12.IsWhole) (arg13 : Memref sig .tc .vmem S16x1024 .f32) (harg13 : arg13.IsWhole) (arg14 : Memref sig .tc .vmem S512x128 .f32) (harg14 : arg14.IsWhole) (arg15 : Memref sig .tc .vmem S256x1024 .f32) (harg15 : arg15.IsWhole)
    (hc1 : ¬ cond1 i) (hc2 : ¬ k0_cond2 i = 1#1) (hc3 : k0_cond3 i = 1#1)
    (x2 : Vec F S512x128 .bf16) (x3 : Vec F S512x1024 .f32) (x4 : Vec F S512x128 .bf16) (x5 : Vec F S1x128x1024 .bf16) (x6 : Vec F S1x1024x128 .bf16) (x7 : Vec F S1x72x1024 .f32) (x10 : Vec F S1x128x1024 .f32)
    (E : Set ℕ) (K : PUnit → sProp (MT nD τ sig Unit (Elt F) ℕ (UR sig nD τ) ℕ)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare (k0_pay6 (k0_pay133 x2 x3) x10) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_s5_bwd0_0 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_s5_bwd0_0_eq_skeleton]; unfold cc0_s5_bwd0_0_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _, _; isplitr; swap; · iexact H8
    ipureintro; rfl
  isplitl [H9]
  · iexists _, _; isplitr; swap; · iexact H9
    ipureintro; rfl
  isplitl [H10]
  · iexists _; isplitr; swap; · iexact H10
    ipureintro
    refine (View.read_writes_full _ _ _ _ _).trans ?_
    unfold runB.sl.r_33 runB.sl.r
    rw [readAt_all harg2, readAt_all harg3, readAt_all harg10]
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelIdeal.S5
-- ==== Proof.S5Frame.lean ====
module

public import proofs.«01_k».proof.Proof.S5Run
public import Idealize.ShloMosaic.Lib.Claim

@[expose] public section

set_option maxRecDepth 16384

noncomputable section

namespace Cert.KernelIdeal.S5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

variable (m : (ℓ : Loc nD τ sig) → Buf (Elt F) ℓ) (ρ : Dev nD → PrngReg)

/-! ## What the readout's gradient block holds, point by point -/

/-- A tile's share of the block: the readout cotangent's rows against the states' rows. -/
abbrev tileDot (c : Dev nD) (t : Fin cfg0.N) : FVec F S128x1024 .f32 := k0_pay133 (iblk m c 0 t) (iblk m c 1 t)

/-- The block after point `n`: stored at the first tile of a slab, added to at the later ones. -/
def dcAt (c : Dev nD) : (n : ℕ) → n < cfg0.N → Vec F S1x128x1024 .f32
  | 0, hn => k0_pay2 (tileDot m c ⟨0, hn⟩)
  | n + 1, hn =>
    if (n + 1) % 9 = 0 then k0_pay2 (tileDot m c ⟨n + 1, hn⟩)
    else k0_pay6 (tileDot m c ⟨n + 1, hn⟩) (dcAt c n (Nat.lt_of_succ_lt hn))

theorem dcAt_first (c : Dev nD) (n : ℕ) (hn : n < cfg0.N) (h : n % 9 = 0) : dcAt m c n hn = k0_pay2 (tileDot m c ⟨n, hn⟩) := by
  cases n with
  | zero => rfl
  | succ n => rw [dcAt, if_pos h]

theorem dcAt_later (c : Dev nD) (n : ℕ) (hn : n < cfg0.N) (h : ¬ n % 9 = 0) :
    dcAt m c n hn = k0_pay6 (tileDot m c ⟨n, hn⟩) (dcAt m c (n - 1) (Nat.lt_of_le_of_lt (Nat.sub_le _ _) hn)) := by
  cases n with
  | zero => exact absurd (Nat.zero_mod 9) h
  | succ n => rw [dcAt, if_neg h]; rfl

/-! ## The proof data -/

/-- The windows of which nothing is said: the input's gradient, the input product's gradient, the decay's gradient. -/
def forgets : Fin 10 → Bool := ![false, false, false, false, false, false, true, true, false, true]

/-- The proof data: the inputs keep their blocks, the readout's gradient is named, the scratch is at anything. -/
def dats (_ : Fin 1) (c : Dev nD) : Dat τ (Elt F) Unit ℕ (UR sig nD τ) ℕ cfg0 c where
  A w := V m c (Pipeline.arrRef spec0 w)
  after w t := match w with
    | 8 => dcAt m c t.val t.isLt
    | 0 => iblk m c 0 t
    | 1 => iblk m c 1 t
    | 2 => iblk m c 2 t
    | 3 => iblk m c 3 t
    | 4 => iblk m c 4 t
    | 5 => iblk m c 5 t
    | 6 => Pipeline.Dat.unnamed (cfg := cfg0) 6 t
    | 7 => Pipeline.Dat.unnamed (cfg := cfg0) 7 t
    | 9 => Pipeline.Dat.unnamed (cfg := cfg0) 9 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d

/-- Every tile writes the readout's gradient block. -/
theorem idle_8 : ∀ i, cfg0.idle 8 i = false :=
  (by decide +kernel : ∀ i : grid0.Coords, (!(k0_cond2 i == 1#1) && !(k0_cond3 i == 1#1)) = false)

/-- At a later tile the block is found as the tile before left it. -/
theorem before_8 (c : Dev nD) (t : Fin cfg0.N) (h : ¬ t.val % 9 = 0) (d) :
    (dats m 0 c).before 8 t d = dcAt m c (t.val - 1) (Nat.lt_of_le_of_lt (Nat.sub_le _ _) t.isLt) :=
  (dats m 0 c).before_out_kept 8 rfl t (fun h0 => h (by rw [h0]))
    (by
      rw [← Bool.not_eq_true, flush0_8]
      show ¬ (t.val - 1) % 9 = 8
      omega) idle_8 (fun _ _ => rfl) d

/-- The scratch buffers at anything and the generator register at some state. -/
theorem PhiA_eq (c : Dev nD) :
    (Pipeline.ΦA spec0 c : sProp (MT nD τ sig Unit (Elt F) ℕ (UR sig nD τ) ℕ))
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-! ## The body obligation -/

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare ((dats m 0 c).before 8 t d))
    ∗ (∃ d, owns (c : Thread nD τ) (win0_9.stage (cfg0.slots t 9)) fullShare d))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ d, owns (c : Thread nD τ) (win0_6.stage (cfg0.slots t 6)) fullShare d)
    ∗ (∃ d, owns (c : Thread nD τ) (win0_7.stage (cfg0.slots t 7)) fullShare d)
    ∗ owns (c : Thread nD τ) (win0_8.stage (cfg0.slots t 8)) fullShare ((dats m 0 c).after 8 t)
    ∗ (∃ d, owns (c : Thread nD τ) (win0_9.stage (cfg0.slots t 9)) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq,
    show (dats m 0 c).after 0 t = iblk m c 0 t from rfl,
    show (dats m 0 c).after 1 t = iblk m c 1 t from rfl,
    show (dats m 0 c).after 2 t = iblk m c 2 t from rfl,
    show (dats m 0 c).after 3 t = iblk m c 3 t from rfl,
    show (dats m 0 c).after 4 t = iblk m c 4 t from rfl,
    show (dats m 0 c).after 5 t = iblk m c 5 t from rfl,
    show (dats m 0 c).after 8 t = dcAt m c t.val t.isLt from rfl]
  simp only [before_0, before_1, before_2, before_3, before_4, before_5]
  by_cases h0 : t.val % 9 = 0
  · rw [dcAt_first m c t.val t.isLt h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, H6, H7, ⟨%d8, H8⟩, H9⟩
    iapply (runA c (grid0.coords t) _ _ _ _ _ _ _ _ _ _ _ _ _ _ _ _ _ _ _ _ _ _ _ _ _ _ _ _ ((cond1_iff t).mpr h0) ((cond2_iff t).mpr h0) (fun h => (cond3_iff t).mp h h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [dcAt_later m c t.val t.isLt h0]
    simp only [before_8 m c t h0]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, H6, H7, ⟨%d8, H8⟩, H9⟩
    iapply (runB c (grid0.coords t) _ _ _ _ _ _ _ _ _ _ _ _ _ _ _ _ _ _ _ _ _ _ _ _ _ _ _ _ (fun h => h0 ((cond1_iff t).mp h)) (fun h => h0 ((cond2_iff t).mp h)) ((cond3_iff t).mpr h0) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) :
    BodyObligation (dats (F := F) m 0 c) (defs₀ (F := F)) Variants.none () Set.univ forgets := fun t => by
  rw [bigSep_W0, bigSep_W0, defs₀_row]
  rw [idle_8 (cfg0.grid.coords t)]
  exact triple_restated (sound_body m c t) rfl .rfl fun _ => .rfl

/-! ## The launch -/

set_option backward.isDefEq.respectTransparency.types false in
/-- Every fair run ends, the inputs' arrays and the readout's gradient at what the proof data names, every semaphore at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The result and the arguments after the run. -/
theorem run_result :
    θ_run defs (onTc (τ := τ) (main (F := F))) ⟨m, fun _ => 0, ρ⟩ (fun r => (∀ c : Dev nD,
      r.2.mem ((cfg0.spec 8).arr.view.loc (c : Thread nD τ)) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((dats m 0 c).toRForget_arrAt_iff (fgt := forgets) (w := 8) rfl _ _).mp ((h.1 c).1 8),
      h.1.arr_in c 0 rfl, h.1.arr_in c 1 rfl, h.1.arr_in c 2 rfl, h.1.arr_in c 3 rfl, h.1.arr_in c 4 rfl, h.1.arr_in c 5 rfl⟩, h.2⟩) (run_main m ρ)

/-- The frame. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h.1 c).2, h.2⟩) (run_result m ρ)

end Cert.KernelIdeal.S5
-- ==== Proof.S5.lean ====
module

public import proofs.«01_k».proof.Proof.S5Frame
public import proofs.«01_k».proof.Proof.Gen.KernelIdeal.Points
public import proofs.«01_k».proof.Proof.Gen.ReferenceIdeal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.KernelIdeal.S5

open Cert.KernelIdeal Cert.KernelIdeal.Gen
open Cert.ReferenceIdeal.Read

variable (m : (ℓ : Loc nD τ sig) → Buf (Elt Ideal) ℓ)

/-- The row tile of a slab's step: the context's tiles from the last to the first, then the remaining one. -/
def tile (k : ℕ) : ℕ := if k = 8 then 8 else 7 - k

/-- The readout windows' block index at every grid point. -/
theorem idx_val : ∀ t : Fin cfg0.N, win0_0.index t = ![tile (t.val % 9), t.val / 9]
    ∧ win0_1.index t = ![tile (t.val % 9), t.val / 9]
    ∧ win0_8.index t = ![t.val / 9, 0, 0] :=
  (by decide +kernel : ∀ t : Fin grid0.N, _)

/-- The steps and the tiles are in bijection. -/
theorem tile_invol : Function.Involutive (fun s : Fin 9 => (⟨tile s.val, by unfold tile; split <;> omega⟩ : Fin 9)) :=
  (by decide : ∀ s : Fin 9, _)

theorem tile_lt (s : Fin 9) (k : Fin 512) : tile s.val * 512 + k.val < 4608 := by
  unfold tile; split <;> omega

/-- A sum over the rows, tile by tile in the order of the steps. -/
theorem sum_tiles {M : Type} [AddCommMonoid M] (G : Fin 4608 → M) :
    ∑ s : Fin 9, ∑ k : Fin 512, G ⟨tile s.val * 512 + k.val, tile_lt s k⟩ = ∑ l : Fin 4608, G l :=
  (Equiv.sum_comp tile_invol.toPerm (fun s : Fin 9 => ∑ k : Fin 512, G ⟨s.val * 512 + k.val, by omega⟩)).trans
    (Fin.sum_mul_add_congr fun _ _ _ => rfl)

/-- The first tile's block: the tile's product. -/
theorem hfirst (x0 : FVec Ideal S512x128 .bf16) (x1 : FVec Ideal S512x1024 .f32) (j) :
    k0_pay2 (F := Ideal) (k0_pay133 x0 x1) j = ∑ k : Fin 512, x0 (ix2 k (j 1)) * x1 (ix2 k (j 2)) := by
  pointwise [k0_pay2, k0_pay133]

/-- A later tile's block: what the tiles before left, and this tile's product. -/
theorem hlater (x0 : FVec Ideal S512x128 .bf16) (x1 : FVec Ideal S512x1024 .f32) (acc : FVec Ideal S1x128x1024 .f32) (j) :
    k0_pay6 (F := Ideal) (k0_pay133 x0 x1) acc j = acc j + ∑ k : Fin 512, x0 (ix2 k (j 1)) * x1 (ix2 k (j 2)) := by
  pointwise [k0_pay6, k0_pay133]

/-- The reference at an index: a sum over all rows. -/
theorem href (x0 : FVec Ideal Cert.ReferenceIdeal.S4608x1024 .bf16) (x1 : FVec Ideal Cert.ReferenceIdeal.S4608x8192 .f32)
    (a : Fin 8) (b : Fin 128) (d : Fin 1024) :
    val_main_v8 (F := Ideal) x0 x1 (ix3 a b d)
      = ∑ k : Fin 4608, x0 (ix2 k ⟨a.val * 128 + b.val, by omega⟩) * x1 (ix2 k ⟨a.val * 1024 + d.val, by omega⟩) := by
  pointwise [val_main_v8, val_main_v7, val_main_v6, val_main_v5, val_main_v0]

/-- The result array after the run is the reference's gradient of the readout. -/
theorem final (c : Dev nD) : (dats m 0 c).arrAt 8 cfg0.N
    = val_main_v8 (F := Ideal) (m ((c : Thread nD τ).loc main_arg0)) (m ((c : Thread nD τ).loc main_arg1)) := by
  refine (dats m 0 c).arrAt_eq_of_covers 8 _ (by decide +kernel) fun t hf y => ?_
  blk_simp
  have hm : t.val % 9 = 8 := (flush0_8 t).mp hf
  show dcAt m c t.val t.isLt y = _
  rw [Pipeline.eq_sum_fin_of_reset_step_apply_of_flush (fun n h => dcAt m c n h) 9 (fun _ => 0)
    (fun t j => ∑ k : Fin 512, (show FVec Ideal S512x128 .bf16 from iblk m c 0 t) (ix2 k (j 1)) * (show FVec Ideal S512x1024 .f32 from iblk m c 1 t) (ix2 k (j 2)))
    (fun t h j => by
      rw [zero_add]
      exact (congrFun (dcAt_first m c t.val t.isLt h) j).trans (hfirst _ _ j))
    (fun t h j => (congrFun (dcAt_later m c t.val t.isLt h) j).trans (hlater _ _ _ j))
    t hm _, zero_add]
  have ht : t.val < 72 := t.isLt
  have hy0 : (y 0).val < 1 := (y 0).isLt
  have hy1 : (y 1).val < 128 := (y 1).isLt
  have hy2 : (y 2).val < 1024 := (y 2).isLt
  have hE : val_main_v8 (F := Ideal) (m ((c : Thread nD τ).loc main_arg0)) (m ((c : Thread nD τ).loc main_arg1)) (ix3 ⟨t.val / 9, by omega⟩ ⟨(y 1).val, hy1⟩ ⟨(y 2).val, hy2⟩)
      = val_main_v8 (F := Ideal) (m ((c : Thread nD τ).loc main_arg0)) (m ((c : Thread nD τ).loc main_arg1)) (((cfg0.win 8).blk t).view.emb y) := by
    blk_point [idx_val t]
  rw [← hE, href]
  refine Eq.trans ?_ (sum_tiles _)
  refine Finset.sum_congr rfl fun s _ => Finset.sum_congr rfl fun k _ => Ideal.mul_congr ?_ ?_
  · blk_point [iblk, V, idx_val ⟨_, Pipeline.run_point_lt_of_flush t hm s⟩]
    rw [show (9 * (t.val / 9) + s.val) % 9 = s.val by omega]
  · blk_point [iblk, V, idx_val ⟨_, Pipeline.run_point_lt_of_flush t hm s⟩]
    rw [show (9 * (t.val / 9) + s.val) % 9 = s.val by omega]

/-- Every fair run leaves the gradient of the readout in the result, the arguments as they were. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_2) = val_main_v8 (F := Ideal) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).1.trans (final m c), (h.1 c).2⟩) (run_result m ρ)

end Cert.KernelIdeal.S5

end
-- ==== Proof.S5Bits.lean ====
module

public import proofs.«01_k».proof.Proof.S5Frame
public import proofs.«01_k».proof.Proof.Gen.Kernel
public import proofs.«01_k».proof.Defs

@[expose] public section

set_option maxRecDepth 16384

noncomputable section

open Idealize.ShloMosaic Idealize.SL.Sem

namespace Cert.Kernel.S5

section
variable {F : FTy → Type} [FloatOps F]

set_option maxHeartbeats 0 in
/-- The program as printed and its idealization have the same body table: no rewrite was applied. -/
theorem same_table₀ : Cert.Kernel.defs₀ (F := F) = Cert.KernelIdeal.defs₀ (F := F) := by
  funext p ℓ a
  match p with
  | .tc =>
    match ℓ, a with
    | 0, (t, s) => rfl
    | ⟨n + 1, h⟩, _ => exact absurd h (Nat.not_lt.2 (Nat.le_add_left _ _))
  | .scScalar _ => rfl
  | .scVector _ _ => rfl

theorem same_table : Cert.Kernel.defs (F := F) = Cert.KernelIdeal.defs (F := F) :=
  congrArg (Pipeline.defs Cert.KernelIdeal.pcfgs) same_table₀

end

/-- The frame of the program as printed. -/
theorem frame : Cert.quiescent_Kernel := fun m g _ => by
  refine Eq.mp ?_ (Cert.KernelIdeal.S5.frame (F := Bits) m g)
  exact congrArg (fun D => θ_run D (onTc (τ := Cert.KernelIdeal.τ) (Cert.KernelIdeal.main (F := Bits))) ⟨m, fun _ => 0, g⟩ _) same_table.symm

end Cert.Kernel.S5

end
-- ==== Proof.V2.lean ====
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value2

open Cert.Kernel2Ideal Cert.Kernel2Ideal.Gen
open Cert.Reference2Ideal.Read

variable (m : (ℓ : Loc nD τ sig) → Buf (Elt Ideal) ℓ)

/-- Every window's block index at every grid point. -/
theorem idx_val : ∀ t : Fin cfg0.N, win0_0.index t = ![t.val % 3, 0]
    ∧ win0_1.index t = ![0, t.val / 3, 0]
    ∧ win0_2.index t = ![t.val % 3, t.val / 3]
    ∧ win0_3.index t = ![t.val % 3, t.val / 3] :=
  (by decide +kernel : ∀ t : Fin grid0.N, _)

/-- The gradient through a squared rectifier: where the input is not positive the rectified value is zero and
    with it the product, so the selection of the reference changes nothing. -/
theorem relu_sq (a s two : EReal) :
    s * two * max a 0 = if 0 < a then s * (two * max a 0) else 0 := by
  by_cases h : 0 < a
  · rw [if_pos h, mul_assoc]
  · rw [if_neg h, max_eq_right (not_lt.mp h), mul_zero]

/-- The rectified array the host hands to the call. -/
theorem host_relu (c : Dev nD) (i : S4608x4096.Idx) :
    V m c main_v2 i = max ((show FVec Ideal S4608x4096 .f32 from m ((c : Thread nD τ).loc main_arg0)) i) 0 := by
  entry_read
  pointwise

/-- What the body stores at a place of its block is the reference at the array index it sits at. -/
theorem point (c : Dev nD) (t : Fin cfg0.N) (y) :
    k0_pay1 (iblk m c 0 t) (iblk m c 1 t) (iblk m c 2 t) y
      = val_main_v12 (F := Ideal) (m ((c : Thread nD τ).loc main_arg0)) (m ((c : Thread nD τ).loc main_arg1))
          (m ((c : Thread nD τ).loc main_arg2)) (((cfg0.win 3).blk t).view.emb y) := by
  pointwise [k0_pay1, val_main_v12, val_main_v11, val_main_v10, val_main_v9, val_main_v8, val_main_v6, val_main_v5,
    val_main_v2, val_main_v1, val_main_v0, val_main_cst, val_main_cst_1, val_main_cst_2, val_main_call0_v0, val_main_call0_cst]
  refine Eq.trans ?_ (relu_sq _ _ _)
  blk_point [iblk, V, idx_val t]
  refine Ideal.mul_congr rfl ?_
  refine (host_relu m c _).trans ?_
  blk_point [idx_val t]

/-- The result array after the run is the reference's gradient. -/
theorem final (c : Dev nD) : (dats m 0 c).arrAt 3 (cfgs 0).N
    = val_main_v12 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp; rw [after0_3]; frame_out
  exact point m c t y

end Cert.Kernel2Ideal.Value2

end
-- ==== Proof.V3.lean ====
module

public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value3

open Cert.Kernel3Ideal Cert.Kernel3Ideal.Gen
open Cert.Reference3Ideal.Read

variable (m : (ℓ : Loc nD τ sig) → Buf (Elt Ideal) ℓ)

/-- Every window's block index at every grid point. -/
theorem idx_val : ∀ t : Fin cfg0.N, win0_0.index t = ![t.val % 3, t.val / 3]
    ∧ win0_1.index t = ![t.val % 3, 0]
    ∧ win0_2.index t = ![t.val / 3, 0] :=
  (by decide +kernel : ∀ t : Fin grid0.N, _)

/-- The squared rectified array the host hands to the call. -/
theorem host_sq (c : Dev nD) (i : S4608x4096.Idx) :
    V m c main_v3 i = max ((show FVec Ideal S4608x4096 .f32 from m ((c : Thread nD τ).loc main_arg0)) i) 0
      * max ((show FVec Ideal S4608x4096 .f32 from m ((c : Thread nD τ).loc main_arg0)) i) 0 := by
  entry_read
  pointwise

/-- The product of one row tile. -/
theorem hpay1 (x0 : FVec Ideal S1536x1024 .bf16) (x1 : FVec Ideal S1536x1024 .bf16) (j) :
    k0_pay2 (F := Ideal) x0 x1 j = ∑ k : Fin 1536, x0 (ix2 k (j 0)) * x1 (ix2 k (j 1)) := by
  pointwise [k0_pay2, k0_pay1]

/-- The accumulated product: what the tiles before left, and this tile's. -/
theorem hpay3 (x0 : FVec Ideal S1536x1024 .bf16) (x1 : FVec Ideal S1536x1024 .bf16) (acc : FVec Ideal S1024x1024 .f32) (j) :
    k0_pay3 (F := Ideal) x0 x1 acc j = acc j + ∑ k : Fin 1536, x0 (ix2 k (j 0)) * x1 (ix2 k (j 1)) := by
  pointwise [k0_pay3, k0_pay1]

/-- The reference at an index: a sum over all rows. -/
theorem href (x0 : FVec Ideal Cert.Reference3Ideal.S4608x4096 .f32) (x1 : FVec Ideal Cert.Reference3Ideal.S4608x1024 .f32) (j) :
    val_main_v6 (F := Ideal) x0 x1 j
      = ∑ k : Fin 4608, (max (x0 (ix2 k (j 0))) 0 * max (x0 (ix2 k (j 0))) 0) * x1 (ix2 k (j 1)) := by
  pointwise! [val_main_v6, val_main_v5, val_main_v4, val_main_v2, val_main_v1, val_main_call0_v0, val_main_call0_cst]

/-- The result array after the run is the reference's gradient. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp; rw [after0_2]
  have hm : t.val % 3 = 2 := (flush0_2 t).mp hf
  have e : (outsAt0 m c t.val t.isLt).1 y = (outsAt0 m c t.val t.isLt).2 y := by
    rw [outsAt0_C m c t (by omega) (by omega) hm]; dsimp only; frame_out
    pointwise [k0_pay4]
  rw [e, Pipeline.eq_sum_fin_of_reset_step_apply_of_flush (fun n h => (outsAt0 m c n h).2) 3 (fun _ => 0) _
    (fun t h j => by rw [outsAt0_A m c t h (by omega) (by omega)]; frame_out; rw [hpay1, zero_add])
    (fun t h j => by
      by_cases h2 : t.val % 3 = 2
      · rw [outsAt0_C m c t h (by omega) h2]; frame_out; rw [hpay3, read_unread_whole]
      · rw [outsAt0_B m c t h (by omega) h2]; frame_out; rw [hpay3, read_unread_whole])
    t hm _, zero_add, href]
  refine Fin.sum_mul_add_congr fun s k hl => ?_
  refine Ideal.mul_congr ((host_sq m c _).trans ?_) ?_
  · blk_point [idx_val t, idx_val ⟨_, Pipeline.run_point_lt_of_flush t hm s⟩]
  · blk_point [iblk, V, idx_val t, idx_val ⟨_, Pipeline.run_point_lt_of_flush t hm s⟩]

end Cert.Kernel3Ideal.Value3

end
-- ==== Proof.V4.lean ====
module

public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Value4

open Cert.Kernel4Ideal Cert.Kernel4Ideal.Gen
open Cert.Reference4Ideal.Read

variable (m : (ℓ : Loc nD τ sig) → Buf (Elt Ideal) ℓ)

/-- Every window's block index at every grid point. -/
theorem idx_val : ∀ t : Fin cfg0.N, win0_0.index t = ![t.val % 3, 0]
    ∧ win0_1.index t = ![t.val % 3, t.val / 3]
    ∧ win0_2.index t = ![t.val / 3, 0, 0] :=
  (by decide +kernel : ∀ t : Fin grid0.N, _)

/-- The product of one row tile. -/
theorem hpay2 (x0 : FVec Ideal S1536x1024 .bf16) (x1 : FVec Ideal S1536x1024 .bf16) (j) :
    k0_pay2 (F := Ideal) x0 x1 j = ∑ k : Fin 1536, x0 (ix2 k (j 0)) * x1 (ix2 k (j 1)) := by
  pointwise [k0_pay2, k0_pay1]

/-- The accumulated product: what the tiles before left, and this tile's. -/
theorem hpay3 (x0 : FVec Ideal S1536x1024 .bf16) (x1 : FVec Ideal S1536x1024 .bf16) (acc : FVec Ideal S1024x1024 .f32) (j) :
    k0_pay3 (F := Ideal) x0 x1 acc j = acc j + ∑ k : Fin 1536, x0 (ix2 k (j 0)) * x1 (ix2 k (j 1)) := by
  pointwise [k0_pay3, k0_pay1]

/-- The two column groups of the accumulated tile, stacked. -/
theorem hpay4 (acc : FVec Ideal S1024x1024 .f32) (a : Fin 2) (r : Fin 1024) (l : Fin 512) :
    k0_pay4 (F := Ideal) acc (ix3 a r l) = acc (ix2 r ⟨a.val * 512 + l.val, by omega⟩) := by
  pointwise [k0_pay4]
  by_cases h : (a : ℕ) < 1
  · rw [dif_pos h]
    exact congrArg acc ((ix2_inj ..).2 ⟨rfl, Fin.ext (by show l.val = a.val * 512 + l.val; omega)⟩)
  · rw [dif_neg h]
    exact congrArg acc ((ix2_inj ..).2 ⟨rfl, Fin.ext (by show 512 + l.val = a.val * 512 + l.val; omega)⟩)

/-- The same at any index of the block and the place of the tile it stands for. -/
theorem hpay4_at (acc : FVec Ideal S1024x1024 .f32) (y : S2x1024x512.Idx) (i : S1024x1024.Idx)
    (h0 : (i 0).val = (y 1).val) (h1 : (i 1).val = (y 0).val * 512 + (y 2).val) :
    k0_pay4 (F := Ideal) acc y = acc i := by
  idx_vars y
  idx_vars i
  refine (hpay4 acc _ _ _).trans (congrArg acc ?_)
  exact (ix2_inj ..).2 ⟨Fin.ext h0.symm, Fin.ext h1.symm⟩

/-- The reference at an index: a sum over all rows. -/
theorem href (x0 : FVec Ideal Cert.Reference4Ideal.S4608x1024 .f32) (x1 : FVec Ideal Cert.Reference4Ideal.S4608x4096 .f32)
    (a : Fin 8) (r : Fin 1024) (l : Fin 512) :
    val_main_v6 (F := Ideal) x0 x1 (ix3 a r l)
      = ∑ k : Fin 4608, x1 (ix2 k ⟨a.val * 512 + l.val, by omega⟩) * x0 (ix2 k r) := by
  pointwise [val_main_v6, val_main_v5, val_main_v4, val_main_v3, val_main_v2]

/-- The same at any index. -/
theorem href_at (x0 : FVec Ideal Cert.Reference4Ideal.S4608x1024 .f32) (x1 : FVec Ideal Cert.Reference4Ideal.S4608x4096 .f32)
    (y : Cert.Reference4Ideal.S8x1024x512.Idx) (i1 : Fin 4096) (h1 : i1.val = (y 0).val * 512 + (y 2).val) :
    val_main_v6 (F := Ideal) x0 x1 y = ∑ k : Fin 4608, x0 (ix2 k (y 1)) * x1 (ix2 k i1) := by
  idx_vars y
  refine (href x0 x1 _ _ _).trans (Finset.sum_congr rfl fun k _ => ?_)
  rw [mul_comm]
  exact congrArg (x0 _ * x1 ·) ((ix2_inj ..).2 ⟨rfl, Fin.ext h1.symm⟩)

/-- The result array after the run is the reference's gradient. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp; rw [after0_2]
  have hm : t.val % 3 = 2 := (flush0_2 t).mp hf
  obtain_idx i : S1024x1024 := [(y 1 : ℕ), (y 0 : ℕ) * 512 + (y 2 : ℕ)] with hi
  have e : (outsAt0 m c t.val t.isLt).1 y = (outsAt0 m c t.val t.isLt).2 i := by
    rw [outsAt0_C m c t (by omega) (by omega) hm]; dsimp only; frame_out
    exact hpay4_at _ _ _ hi0 hi1
  rw [e, Pipeline.eq_sum_fin_of_reset_step_apply_of_flush (fun n h => (outsAt0 m c n h).2) 3 (fun _ => 0) _
    (fun t h j => by rw [outsAt0_A m c t h (by omega) (by omega)]; frame_out; rw [hpay2, zero_add])
    (fun t h j => by
      by_cases h2 : t.val % 3 = 2
      · rw [outsAt0_C m c t h (by omega) h2]; frame_out; rw [hpay3, read_unread_whole]
      · rw [outsAt0_B m c t h (by omega) h2]; frame_out; rw [hpay3, read_unread_whole])
    t hm _, zero_add]
  have ht : t.val < 12 := t.isLt
  have hy0 : (y 0).val < 2 := (y 0).isLt
  have hy2 : (y 2).val < 512 := (y 2).isLt
  have hi : (i 1).val < 1024 := (i 1).isLt
  have hb : t.val / 3 * 1024 + (i 1).val < 4096 := by omega
  refine Eq.trans ?_ (href_at _ _ _ ⟨t.val / 3 * 1024 + (i 1).val, hb⟩ ?_).symm
  · refine Fin.sum_mul_add_congr fun s k hl => ?_
    blk_point [iblk, V, idx_val t, idx_val ⟨_, Pipeline.run_point_lt_of_flush t hm s⟩]
  · show t.val / 3 * 1024 + (i 1).val = _
    blk_simp [idx_val t]
    omega

end Cert.Kernel4Ideal.Value4

end
-- ==== Proof.V5.lean ====
module

public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value5

open Cert.Kernel5Ideal Cert.Kernel5Ideal.Gen
open Cert.Reference5Ideal.Read (val_main_v2)

variable (m : (ℓ : Loc nD τ sig) → Buf (Elt Ideal) ℓ)

/-- Every window's block index at every grid point. -/
theorem idx_val : ∀ t : Fin cfg0.N, win0_0.index t = ![t.val, 0]
    ∧ win0_1.index t = ![0, 0, 0]
    ∧ win0_2.index t = ![t.val, 0] :=
  (by decide +kernel : ∀ t : Fin grid0.N, _)

/-- What the body stores at a place of its block is the reference's product at the array index it sits at. -/
theorem point (c : Dev nD) (t : Fin cfg0.N) (y) :
    k0_pay1 (iblk m c 0 t) (iblk m c 1 t) y
      = val_main_v2 (F := Ideal) (m ((c : Thread nD τ).loc main_arg0)) (m ((c : Thread nD τ).loc main_arg1))
          (((cfg0.win 2).blk t).view.emb y) := by
  pointwise [k0_pay1, val_main_v2]
  blk_point [iblk, V, idx_val t]

/-- The result array after the run is the reference's product. -/
theorem final (c : Dev nD) : (dats m 0 c).arrAt 2 (cfgs 0).N
    = val_main_v2 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel5Ideal.Value5

end
-- ==== Proof.V6.lean ====
module

public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Value6

open Cert.Kernel6Ideal Cert.Kernel6Ideal.Gen
open Cert.Reference6Ideal.Read

variable (m : (ℓ : Loc nD τ sig) → Buf (Elt Ideal) ℓ)

/-- The input the host hands to the call. -/
theorem host_x (c : Dev nD) (i : S4608x1024.Idx) :
    V m c main_v0 i = (show FVec Ideal S4608x1024 .f32 from m ((c : Thread nD τ).loc main_arg0)) i := by
  entry_read
  pointwise

/-- The cotangent the host hands to the call. -/
theorem host_g (c : Dev nD) (i : S4608x2048.Idx) :
    V m c main_v1 i = (show FVec Ideal S4608x2048 .f32 from m ((c : Thread nD τ).loc main_arg1)) i := by
  entry_read
  pointwise

/-- The product of one row tile. -/
theorem hpay2 (x0 : FVec Ideal S1536x1024 .bf16) (x1 : FVec Ideal S1536x1024 .bf16) (j) :
    k0_pay2 (F := Ideal) x0 x1 j = ∑ k : Fin 1536, x0 (ix2 k (j 0)) * x1 (ix2 k (j 1)) := by
  pointwise [k0_pay2, k0_pay1]

/-- The accumulated product: what the tiles before left, and this tile's. -/
theorem hpay3 (x0 : FVec Ideal S1536x1024 .bf16) (x1 : FVec Ideal S1536x1024 .bf16) (acc : FVec Ideal S1024x1024 .f32) (j) :
    k0_pay3 (F := Ideal) x0 x1 acc j = acc j + ∑ k : Fin 1536, x0 (ix2 k (j 0)) * x1 (ix2 k (j 1)) := by
  pointwise [k0_pay3, k0_pay1]

/-- Every window's block index at every grid point. -/
theorem idx_val : ∀ t : Fin cfg0.N, win0_0.index t = ![t.val % 3, 0]
    ∧ win0_1.index t = ![t.val % 3, t.val / 3]
    ∧ win0_2.index t = ![t.val / 3, 0, 0] :=
  (by decide +kernel : ∀ t : Fin grid0.N, _)

/-- The four column groups of the accumulated tile, stacked. -/
theorem hpay4 (acc : FVec Ideal S1024x1024 .f32) (a : Fin 4) (r : Fin 1024) (l : Fin 256) :
    k0_pay4 (F := Ideal) acc (ix3 a r l) = acc (ix2 r ⟨a.val * 256 + l.val, by omega⟩) := by
  pointwise [k0_pay4]
  split_ifs with h1 h2 h3
  · exact congrArg acc ((ix2_inj ..).2 ⟨rfl, Fin.ext (by show l.val = a.val * 256 + l.val; omega)⟩)
  · exact congrArg acc ((ix2_inj ..).2 ⟨rfl, Fin.ext (by show 256 + l.val = a.val * 256 + l.val; omega)⟩)
  · exact congrArg acc ((ix2_inj ..).2 ⟨rfl, Fin.ext (by show 512 + l.val = a.val * 256 + l.val; omega)⟩)
  · exact congrArg acc ((ix2_inj ..).2 ⟨rfl, Fin.ext (by show 768 + l.val = a.val * 256 + l.val; omega)⟩)

/-- The same at any index of the block and the place of the tile it stands for. -/
theorem hpay4_at (acc : FVec Ideal S1024x1024 .f32) (y : S4x1024x256.Idx) (i : S1024x1024.Idx)
    (h0 : (i 0).val = (y 1).val) (h1 : (i 1).val = (y 0).val * 256 + (y 2).val) :
    k0_pay4 (F := Ideal) acc y = acc i := by
  idx_vars y
  idx_vars i
  refine (hpay4 acc _ _ _).trans (congrArg acc ?_)
  exact (ix2_inj ..).2 ⟨Fin.ext h0.symm, Fin.ext h1.symm⟩

/-- The reference at an index: a sum over all rows. -/
theorem href (x0 : FVec Ideal Cert.Reference6Ideal.S4608x1024 .f32) (x1 : FVec Ideal Cert.Reference6Ideal.S4608x2048 .f32)
    (a : Fin 8) (r : Fin 1024) (l : Fin 256) :
    val_main_v10 (F := Ideal) x0 x1 (ix3 a r l)
      = ∑ k : Fin 4608, x1 (ix2 k ⟨a.val * 256 + l.val, by omega⟩) * x0 (ix2 k r) := by
  pointwise [val_main_v10, val_main_v9, val_main_v8, val_main_v7, val_main_v6]

/-- The same at any index. -/
theorem href_at (x0 : FVec Ideal Cert.Reference6Ideal.S4608x1024 .f32) (x1 : FVec Ideal Cert.Reference6Ideal.S4608x2048 .f32)
    (y : Cert.Reference6Ideal.S8x1024x256.Idx) (i1 : Fin 2048) (h1 : i1.val = (y 0).val * 256 + (y 2).val) :
    val_main_v10 (F := Ideal) x0 x1 y = ∑ k : Fin 4608, x0 (ix2 k (y 1)) * x1 (ix2 k i1) := by
  idx_vars y
  refine (href x0 x1 _ _ _).trans (Finset.sum_congr rfl fun k _ => ?_)
  rw [mul_comm]
  exact congrArg (x0 _ * x1 ·) ((ix2_inj ..).2 ⟨rfl, Fin.ext h1.symm⟩)

/-- The result array after the run is the reference's gradient. -/
theorem final (c : Dev nD) : (dats m 0 c).arrAt 2 (cfgs 0).N
    = val_main_v10 (F := Ideal) (m ((c : Thread nD τ).loc main_arg0)) (m ((c : Thread nD τ).loc main_arg1)) := by
  refine (dats m 0 c).arrAt_eq_of_covers 2 _ (by decide +kernel) fun t hf y => ?_
  blk_simp; rw [after0_2]
  have hm : t.val % 3 = 2 := (flush0_2 t).mp hf
  obtain_idx i : S1024x1024 := [(y 1 : ℕ), (y 0 : ℕ) * 256 + (y 2 : ℕ)] with hi
  have e : (outsAt0 m c t.val t.isLt).1 y = (outsAt0 m c t.val t.isLt).2 i := by
    rw [outsAt0_C m c t (by omega) (by omega) hm]; dsimp only; frame_out
    exact hpay4_at _ _ _ hi0 hi1
  rw [e, Pipeline.eq_sum_fin_of_reset_step_apply_of_flush (fun n h => (outsAt0 m c n h).2) 3 (fun _ => 0) _
    (fun t h j => by rw [outsAt0_A m c t h (by omega) (by omega)]; frame_out; rw [hpay2, zero_add])
    (fun t h j => by
      by_cases h2 : t.val % 3 = 2
      · rw [outsAt0_C m c t h (by omega) h2]; frame_out; rw [hpay3, read_unread_whole]
      · rw [outsAt0_B m c t h (by omega) h2]; frame_out; rw [hpay3, read_unread_whole])
    t hm _, zero_add]
  have ht : t.val < 6 := t.isLt
  have hy0 : (y 0).val < 4 := (y 0).isLt
  have hy2 : (y 2).val < 256 := (y 2).isLt
  have hi : (i 1).val < 1024 := (i 1).isLt
  have hb : t.val / 3 * 1024 + (i 1).val < 2048 := by omega
  refine Eq.trans ?_ (href_at _ _ _ ⟨t.val / 3 * 1024 + (i 1).val, hb⟩ ?_).symm
  · refine Fin.sum_mul_add_congr fun s k hl => Ideal.mul_congr ((host_x m c _).trans ?_) ((host_g m c _).trans ?_)
    · blk_point [idx_val t, idx_val ⟨_, Pipeline.run_point_lt_of_flush t hm s⟩]
    · blk_point [idx_val t, idx_val ⟨_, Pipeline.run_point_lt_of_flush t hm s⟩]
  · show t.val / 3 * 1024 + (i 1).val = _
    blk_simp [idx_val t]
    omega

end Cert.Kernel6Ideal.Value6

end
-- ==== Proof.V7.lean ====
module

public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Value7

open Cert.Kernel7Ideal Cert.Kernel7Ideal.Gen
open Cert.Reference7Ideal.Read

variable (m : (ℓ : Loc nD τ sig) → Buf (Elt Ideal) ℓ)

/-- Every window's block index at every grid point. -/
theorem idx_val : ∀ t : Fin cfg0.N, win0_0.index t = ![t.val, 0]
    ∧ win0_1.index t = ![0, 0, 0]
    ∧ win0_2.index t = ![t.val, 0] :=
  (by decide +kernel : ∀ t : Fin grid0.N, _)

/-- The cotangent the host hands to the call. -/
theorem host_g (c : Dev nD) (i : S4608x2048.Idx) :
    V m c main_v0 i = (show FVec Ideal S4608x2048 .f32 from m ((c : Thread nD τ).loc main_arg1)) i := by
  entry_read
  pointwise

/-- The weight the host hands to the call. -/
theorem host_w (c : Dev nD) (p : Fin 1) (r : Fin 1024) (l : Fin 2048) :
    V m c main_v2 (ix3 p r l) = (show FVec Ideal S1024x2048 .f32 from m ((c : Thread nD τ).loc main_arg0)) (ix2 r l) := by
  entry_read
  pointwise

/-- The host's weight at any index and the place it stands for. -/
theorem host_w_at (c : Dev nD) (y : S1x1024x2048.Idx) (i : S1024x2048.Idx) (h0 : (y 1).val = (i 0).val) (h1 : (y 2).val = (i 1).val) :
    V m c main_v2 y = (show FVec Ideal S1024x2048 .f32 from m ((c : Thread nD τ).loc main_arg0)) i := by
  idx_vars y
  idx_vars i
  refine (host_w m c _ _ _).trans (congrArg _ ?_)
  exact (ix2_inj ..).2 ⟨Fin.ext h0, Fin.ext h1⟩

/-- What the body stores at a place of its block is the reference's product at the array index it sits at. -/
theorem point (c : Dev nD) (t : Fin cfg0.N) (y) :
    k0_pay1 (iblk m c 0 t) (iblk m c 1 t) y
      = val_main_v6 (F := Ideal) (m ((c : Thread nD τ).loc main_arg0)) (m ((c : Thread nD τ).loc main_arg1))
          (((cfg0.win 2).blk t).view.emb y) := by
  pointwise [k0_pay1, val_main_v6]
  refine Finset.sum_congr rfl fun k _ => Ideal.mul_congr ?_ ?_
  · refine (host_g m c _).trans ?_
    blk_point [idx_val t]
  · refine host_w_at m c _ _ ?_ ?_
    · blk_simp [idx_val t]
    · blk_simp [idx_val t]

/-- The result array after the run is the reference's product. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel7Ideal.Value7

end
-- ==== Proof.V8.lean ====
module

public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Value8

open Cert.Kernel8Ideal Cert.Kernel8Ideal.Gen
open Cert.Reference8Ideal.Read

variable (m : (ℓ : Loc nD τ sig) → Buf (Elt Ideal) ℓ)

/-- The input the host hands to the call. -/
theorem host_x (c : Dev nD) (i : S4608x1024.Idx) :
    V m c main_v0 i = (show FVec Ideal S4608x1024 .f32 from m ((c : Thread nD τ).loc main_arg0)) i := by
  entry_read
  pointwise

/-- The cotangent the host hands to the call. -/
theorem host_g (c : Dev nD) (i : S4608x1024.Idx) :
    V m c main_v1 i = (show FVec Ideal S4608x1024 .f32 from m ((c : Thread nD τ).loc main_arg1)) i := by
  entry_read
  pointwise

/-- The product of one row tile. -/
theorem hpay2 (x0 : FVec Ideal S1536x1024 .bf16) (x1 : FVec Ideal S1536x1024 .bf16) (j) :
    k0_pay2 (F := Ideal) x0 x1 j = ∑ k : Fin 1536, x0 (ix2 k (j 0)) * x1 (ix2 k (j 1)) := by
  pointwise [k0_pay2, k0_pay1]

/-- The accumulated product: what the tiles before left, and this tile's. -/
theorem hpay3 (x0 : FVec Ideal S1536x1024 .bf16) (x1 : FVec Ideal S1536x1024 .bf16) (acc : FVec Ideal S1024x1024 .f32) (j) :
    k0_pay3 (F := Ideal) x0 x1 acc j = acc j + ∑ k : Fin 1536, x0 (ix2 k (j 0)) * x1 (ix2 k (j 1)) := by
  pointwise [k0_pay3, k0_pay1]

/-- Every window's block index at every grid point. -/
theorem idx_val : ∀ t : Fin cfg0.N, win0_0.index t = ![t.val % 3, 0]
    ∧ win0_1.index t = ![t.val % 3, 0]
    ∧ win0_2.index t = ![t.val / 3, 0] :=
  (by decide +kernel : ∀ t : Fin grid0.N, _)

/-- The reference at an index: a sum over all rows. -/
theorem href (x0 : FVec Ideal Cert.Reference8Ideal.S4608x1024 .f32) (x1 : FVec Ideal Cert.Reference8Ideal.S4608x1024 .f32) (j) :
    val_main_v8 (F := Ideal) x0 x1 j
      = ∑ k : Fin 4608, x1 (ix2 k (j 1)) * x0 (ix2 k (j 0)) := by
  pointwise [val_main_v8, val_main_v7, val_main_v6]

/-- The result array after the run is the reference's gradient. -/
theorem final (c : Dev nD) : (dats m 0 c).arrAt 2 (cfgs 0).N
    = val_main_v8 (F := Ideal) (m ((c : Thread nD τ).loc main_arg0)) (m ((c : Thread nD τ).loc main_arg1)) := by
  refine (dats m 0 c).arrAt_eq_of_covers 2 _ (by decide +kernel) fun t hf y => ?_
  blk_simp; rw [after0_2]
  have ht : t.val < 3 := t.isLt
  have hm : t.val % 3 = 2 := (flush0_2 t).mp hf
  have e : (outsAt0 m c t.val t.isLt).1 y = (outsAt0 m c t.val t.isLt).2 y := by
    rw [outsAt0_C m c t (by omega) (by omega) hm]; dsimp only; frame_out
    pointwise [k0_pay4]
  rw [e, Pipeline.eq_sum_fin_of_reset_step_apply_of_flush (fun n h => (outsAt0 m c n h).2) 3 (fun _ => 0) _
    (fun t h j => by
      have ht : t.val < 3 := t.isLt
      rw [outsAt0_A m c t h (by omega) (by omega)]; frame_out; rw [hpay2, zero_add])
    (fun t h j => by
      have ht : t.val < 3 := t.isLt
      by_cases h2 : t.val % 3 = 2
      · rw [outsAt0_C m c t h (by omega) h2]; frame_out; rw [hpay3, read_unread_whole]
      · rw [outsAt0_B m c t h (by omega) h2]; frame_out; rw [hpay3, read_unread_whole])
    t hm _, zero_add, href]
  refine Fin.sum_mul_add_congr fun s k hl => ?_
  rw [mul_comm]
  refine Ideal.mul_congr ((host_g m c _).trans ?_) ((host_x m c _).trans ?_)
  · blk_point [idx_val t, idx_val ⟨_, Pipeline.run_point_lt_of_flush t hm s⟩]
  · blk_point [idx_val t, idx_val ⟨_, Pipeline.run_point_lt_of_flush t hm s⟩]

end Cert.Kernel8Ideal.Value8

end
-- ==== Proof.V9.lean ====
module

public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Value9

open Cert.Kernel9Ideal Cert.Kernel9Ideal.Gen
open Cert.Reference9Ideal.Read

variable (m : (ℓ : Loc nD τ sig) → Buf (Elt Ideal) ℓ)

/-- Every window's block index at every grid point. -/
theorem idx_val : ∀ t : Fin cfg0.N, win0_0.index t = ![t.val, 0]
    ∧ win0_1.index t = ![0, 0, 0]
    ∧ win0_2.index t = ![t.val, 0] :=
  (by decide +kernel : ∀ t : Fin grid0.N, _)

/-- The cotangent the host hands to the call. -/
theorem host_g (c : Dev nD) (i : S4608x1024.Idx) :
    V m c main_v0 i = (show FVec Ideal S4608x1024 .f32 from m ((c : Thread nD τ).loc main_arg1)) i := by
  entry_read
  pointwise

/-- The weight the host hands to the call. -/
theorem host_w (c : Dev nD) (p : Fin 1) (r : Fin 1024) (l : Fin 1024) :
    V m c main_v2 (ix3 p r l) = (show FVec Ideal S1024x1024 .f32 from m ((c : Thread nD τ).loc main_arg0)) (ix2 r l) := by
  entry_read
  pointwise

/-- The host's weight at any index and the place it stands for. -/
theorem host_w_at (c : Dev nD) (y : S1x1024x1024.Idx) (i : S1024x1024.Idx) (h0 : (y 1).val = (i 0).val) (h1 : (y 2).val = (i 1).val) :
    V m c main_v2 y = (show FVec Ideal S1024x1024 .f32 from m ((c : Thread nD τ).loc main_arg0)) i := by
  idx_vars y
  idx_vars i
  refine (host_w m c _ _ _).trans (congrArg _ ?_)
  exact (ix2_inj ..).2 ⟨Fin.ext h0, Fin.ext h1⟩

/-- What the body stores at a place of its block is the reference's product at the array index it sits at. -/
theorem point (c : Dev nD) (t : Fin cfg0.N) (y) :
    k0_pay1 (iblk m c 0 t) (iblk m c 1 t) y
      = val_main_v6 (F := Ideal) (m ((c : Thread nD τ).loc main_arg0)) (m ((c : Thread nD τ).loc main_arg1))
          (((cfg0.win 2).blk t).view.emb y) := by
  pointwise [k0_pay1, val_main_v6]
  refine Finset.sum_congr rfl fun k _ => Ideal.mul_congr ?_ ?_
  · refine (host_g m c _).trans ?_
    blk_point [idx_val t]
  · refine host_w_at m c _ _ ?_ ?_
    · blk_simp [idx_val t]
    · blk_simp [idx_val t]

/-- The result array after the run is the reference's product. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel9Ideal.Value9

end
-- ==== Proof.V10.lean ====
module

public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Value10

open Cert.Kernel10Ideal Cert.Kernel10Ideal.Gen
open Cert.Reference10Ideal.Read

variable (m : (ℓ : Loc nD τ sig) → Buf (Elt Ideal) ℓ)

/-- The input the host hands to the call. -/
theorem host_x (c : Dev nD) (i : S4608x1024.Idx) :
    V m c main_v0 i = (show FVec Ideal S4608x1024 .f32 from m ((c : Thread nD τ).loc main_arg0)) i := by
  entry_read
  pointwise

/-- The cotangent the host hands to the call. -/
theorem host_g (c : Dev nD) (i : S4608x2048.Idx) :
    V m c main_v1 i = (show FVec Ideal S4608x2048 .f32 from m ((c : Thread nD τ).loc main_arg1)) i := by
  entry_read
  pointwise

/-- The product of one row tile. -/
theorem hpay2 (x0 : FVec Ideal S1536x1024 .bf16) (x1 : FVec Ideal S1536x1024 .bf16) (j) :
    k0_pay2 (F := Ideal) x0 x1 j = ∑ k : Fin 1536, x0 (ix2 k (j 0)) * x1 (ix2 k (j 1)) := by
  pointwise [k0_pay2, k0_pay1]

/-- The accumulated product: what the tiles before left, and this tile's. -/
theorem hpay3 (x0 : FVec Ideal S1536x1024 .bf16) (x1 : FVec Ideal S1536x1024 .bf16) (acc : FVec Ideal S1024x1024 .f32) (j) :
    k0_pay3 (F := Ideal) x0 x1 acc j = acc j + ∑ k : Fin 1536, x0 (ix2 k (j 0)) * x1 (ix2 k (j 1)) := by
  pointwise [k0_pay3, k0_pay1]

/-- Every window's block index at every grid point. -/
theorem idx_val : ∀ t : Fin cfg0.N, win0_0.index t = ![t.val % 3, 0]
    ∧ win0_1.index t = ![t.val % 3, t.val / 3]
    ∧ win0_2.index t = ![t.val / 3, 0, 0] :=
  (by decide +kernel : ∀ t : Fin grid0.N, _)

/-- The four column groups of the accumulated tile, stacked. -/
theorem hpay4 (acc : FVec Ideal S1024x1024 .f32) (a : Fin 4) (r : Fin 1024) (l : Fin 256) :
    k0_pay4 (F := Ideal) acc (ix3 a r l) = acc (ix2 r ⟨a.val * 256 + l.val, by omega⟩) := by
  pointwise [k0_pay4]
  split_ifs with h1 h2 h3
  · exact congrArg acc ((ix2_inj ..).2 ⟨rfl, Fin.ext (by show l.val = a.val * 256 + l.val; omega)⟩)
  · exact congrArg acc ((ix2_inj ..).2 ⟨rfl, Fin.ext (by show 256 + l.val = a.val * 256 + l.val; omega)⟩)
  · exact congrArg acc ((ix2_inj ..).2 ⟨rfl, Fin.ext (by show 512 + l.val = a.val * 256 + l.val; omega)⟩)
  · exact congrArg acc ((ix2_inj ..).2 ⟨rfl, Fin.ext (by show 768 + l.val = a.val * 256 + l.val; omega)⟩)

/-- The same at any index of the block and the place of the tile it stands for. -/
theorem hpay4_at (acc : FVec Ideal S1024x1024 .f32) (y : S4x1024x256.Idx) (i : S1024x1024.Idx)
    (h0 : (i 0).val = (y 1).val) (h1 : (i 1).val = (y 0).val * 256 + (y 2).val) :
    k0_pay4 (F := Ideal) acc y = acc i := by
  idx_vars y
  idx_vars i
  refine (hpay4 acc _ _ _).trans (congrArg acc ?_)
  exact (ix2_inj ..).2 ⟨Fin.ext h0.symm, Fin.ext h1.symm⟩

/-- The reference at an index: a sum over all rows. -/
theorem href (x0 : FVec Ideal Cert.Reference10Ideal.S4608x1024 .f32) (x1 : FVec Ideal Cert.Reference10Ideal.S4608x2048 .f32)
    (a : Fin 8) (r : Fin 1024) (l : Fin 256) :
    val_main_v10 (F := Ideal) x0 x1 (ix3 a r l)
      = ∑ k : Fin 4608, x1 (ix2 k ⟨a.val * 256 + l.val, by omega⟩) * x0 (ix2 k r) := by
  pointwise [val_main_v10, val_main_v9, val_main_v8, val_main_v7, val_main_v6]

/-- The same at any index. -/
theorem href_at (x0 : FVec Ideal Cert.Reference10Ideal.S4608x1024 .f32) (x1 : FVec Ideal Cert.Reference10Ideal.S4608x2048 .f32)
    (y : Cert.Reference10Ideal.S8x1024x256.Idx) (i1 : Fin 2048) (h1 : i1.val = (y 0).val * 256 + (y 2).val) :
    val_main_v10 (F := Ideal) x0 x1 y = ∑ k : Fin 4608, x0 (ix2 k (y 1)) * x1 (ix2 k i1) := by
  idx_vars y
  refine (href x0 x1 _ _ _).trans (Finset.sum_congr rfl fun k _ => ?_)
  rw [mul_comm]
  exact congrArg (x0 _ * x1 ·) ((ix2_inj ..).2 ⟨rfl, Fin.ext h1.symm⟩)

/-- The result array after the run is the reference's gradient. -/
theorem final (c : Dev nD) : (dats m 0 c).arrAt 2 (cfgs 0).N
    = val_main_v10 (F := Ideal) (m ((c : Thread nD τ).loc main_arg0)) (m ((c : Thread nD τ).loc main_arg1)) := by
  refine (dats m 0 c).arrAt_eq_of_covers 2 _ (by decide +kernel) fun t hf y => ?_
  blk_simp; rw [after0_2]
  have hm : t.val % 3 = 2 := (flush0_2 t).mp hf
  obtain_idx i : S1024x1024 := [(y 1 : ℕ), (y 0 : ℕ) * 256 + (y 2 : ℕ)] with hi
  have e : (outsAt0 m c t.val t.isLt).1 y = (outsAt0 m c t.val t.isLt).2 i := by
    rw [outsAt0_C m c t (by omega) (by omega) hm]; dsimp only; frame_out
    exact hpay4_at _ _ _ hi0 hi1
  rw [e, Pipeline.eq_sum_fin_of_reset_step_apply_of_flush (fun n h => (outsAt0 m c n h).2) 3 (fun _ => 0) _
    (fun t h j => by rw [outsAt0_A m c t h (by omega) (by omega)]; frame_out; rw [hpay2, zero_add])
    (fun t h j => by
      by_cases h2 : t.val % 3 = 2
      · rw [outsAt0_C m c t h (by omega) h2]; frame_out; rw [hpay3, read_unread_whole]
      · rw [outsAt0_B m c t h (by omega) h2]; frame_out; rw [hpay3, read_unread_whole])
    t hm _, zero_add]
  have ht : t.val < 6 := t.isLt
  have hy0 : (y 0).val < 4 := (y 0).isLt
  have hy2 : (y 2).val < 256 := (y 2).isLt
  have hi : (i 1).val < 1024 := (i 1).isLt
  have hb : t.val / 3 * 1024 + (i 1).val < 2048 := by omega
  refine Eq.trans ?_ (href_at _ _ _ ⟨t.val / 3 * 1024 + (i 1).val, hb⟩ ?_).symm
  · refine Fin.sum_mul_add_congr fun s k hl => Ideal.mul_congr ((host_x m c _).trans ?_) ((host_g m c _).trans ?_)
    · blk_point [idx_val t, idx_val ⟨_, Pipeline.run_point_lt_of_flush t hm s⟩]
    · blk_point [idx_val t, idx_val ⟨_, Pipeline.run_point_lt_of_flush t hm s⟩]
  · show t.val / 3 * 1024 + (i 1).val = _
    blk_simp [idx_val t]
    omega

end Cert.Kernel10Ideal.Value10

end
-- ==== Proof.V11.lean ====
module

public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel11Ideal.Value11

open Cert.Kernel11Ideal Cert.Kernel11Ideal.Gen
open Cert.Reference11Ideal.Read

variable (m : (ℓ : Loc nD τ sig) → Buf (Elt Ideal) ℓ)

/-- Every window's block index at every grid point. -/
theorem idx_val : ∀ t : Fin cfg0.N, win0_0.index t = ![t.val, 0]
    ∧ win0_1.index t = ![0, 0, 0]
    ∧ win0_2.index t = ![t.val, 0] :=
  (by decide +kernel : ∀ t : Fin grid0.N, _)

/-- The cotangent the host hands to the call. -/
theorem host_g (c : Dev nD) (i : S4608x2048.Idx) :
    V m c main_v0 i = (show FVec Ideal S4608x2048 .f32 from m ((c : Thread nD τ).loc main_arg1)) i := by
  entry_read
  pointwise

/-- The weight the host hands to the call. -/
theorem host_w (c : Dev nD) (p : Fin 1) (r : Fin 1024) (l : Fin 2048) :
    V m c main_v2 (ix3 p r l) = (show FVec Ideal S1024x2048 .f32 from m ((c : Thread nD τ).loc main_arg0)) (ix2 r l) := by
  entry_read
  pointwise

/-- The host's weight at any index and the place it stands for. -/
theorem host_w_at (c : Dev nD) (y : S1x1024x2048.Idx) (i : S1024x2048.Idx) (h0 : (y 1).val = (i 0).val) (h1 : (y 2).val = (i 1).val) :
    V m c main_v2 y = (show FVec Ideal S1024x2048 .f32 from m ((c : Thread nD τ).loc main_arg0)) i := by
  idx_vars y
  idx_vars i
  refine (host_w m c _ _ _).trans (congrArg _ ?_)
  exact (ix2_inj ..).2 ⟨Fin.ext h0, Fin.ext h1⟩

/-- What the body stores at a place of its block is the reference's product at the array index it sits at. -/
theorem point (c : Dev nD) (t : Fin cfg0.N) (y) :
    k0_pay1 (iblk m c 0 t) (iblk m c 1 t) y
      = val_main_v6 (F := Ideal) (m ((c : Thread nD τ).loc main_arg0)) (m ((c : Thread nD τ).loc main_arg1))
          (((cfg0.win 2).blk t).view.emb y) := by
  pointwise [k0_pay1, val_main_v6]
  refine Finset.sum_congr rfl fun k _ => Ideal.mul_congr ?_ ?_
  · refine (host_g m c _).trans ?_
    blk_point [idx_val t]
  · refine host_w_at m c _ _ ?_ ?_
    · blk_simp [idx_val t]
    · blk_simp [idx_val t]

/-- The result array after the run is the reference's product. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel11Ideal.Value11

end
-- ==== Proof.V12.lean ====
module

public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel12Ideal.Value12

open Cert.Kernel12Ideal Cert.Kernel12Ideal.Gen
open Cert.Reference12Ideal.Read

variable (m : (ℓ : Loc nD τ sig) → Buf (Elt Ideal) ℓ)

/-- Every window's block index at every grid point. -/
theorem idx_val : ∀ t : Fin cfg0.N, win0_0.index t = ![t.val % 3, 0]
    ∧ win0_1.index t = ![0, 0, t.val / 3]
    ∧ win0_2.index t = ![t.val % 3, t.val / 3]
    ∧ win0_3.index t = ![t.val % 3, t.val / 3] :=
  (by decide +kernel : ∀ t : Fin grid0.N, _)

/-- The rows the host hands to the call. -/
theorem host_x (c : Dev nD) (i : S4608x1024.Idx) :
    V m c main_v0 i = (show FVec Ideal S4608x1024 .f32 from m ((c : Thread nD τ).loc main_arg0)) i := by
  entry_read
  pointwise

/-- The weight the host hands to the call. -/
theorem host_w (c : Dev nD) (p : Fin 1) (r : Fin 1024) (l : Fin 4096) :
    V m c main_v2 (ix3 p r l) = (show FVec Ideal S1024x4096 .f32 from m ((c : Thread nD τ).loc main_arg1)) (ix2 r l) := by
  entry_read
  pointwise

/-- The host's weight at any index and the place it stands for. -/
theorem host_w_at (c : Dev nD) (y : S1x1024x4096.Idx) (i : S1024x4096.Idx) (h0 : (y 1).val = (i 0).val) (h1 : (y 2).val = (i 1).val) :
    V m c main_v2 y = (show FVec Ideal S1024x4096 .f32 from m ((c : Thread nD τ).loc main_arg1)) i := by
  idx_vars y
  idx_vars i
  refine (host_w m c _ _ _).trans (congrArg _ ?_)
  exact (ix2_inj ..).2 ⟨Fin.ext h0, Fin.ext h1⟩

/-- The product of a block at a place is the reference's product at the array index the place sits at. -/
theorem dot (c : Dev nD) (t : Fin cfg0.N) (y) :
    k0_pay1 (iblk m c 0 t) (iblk m c 1 t) y
      = val_main_v0 (F := Ideal) (m ((c : Thread nD τ).loc main_arg0)) (m ((c : Thread nD τ).loc main_arg1))
          (((cfg0.win 2).blk t).view.emb y) := by
  pointwise [k0_pay1, val_main_v0]
  refine Finset.sum_congr rfl fun k _ => Ideal.mul_congr ?_ ?_
  · refine (host_x m c _).trans ?_
    blk_point [idx_val t]
  · refine host_w_at m c _ _ ?_ ?_
    · blk_simp [idx_val t]
    · blk_simp [idx_val t]

/-- The stored square of the positive part. -/
theorem point_p (c : Dev nD) (t : Fin cfg0.N) (y) :
    k0_pay2 (iblk m c 0 t) (iblk m c 1 t) y
      = val_main_v3 (F := Ideal) (m ((c : Thread nD τ).loc main_arg0)) (m ((c : Thread nD τ).loc main_arg1))
          (((cfg0.win 2).blk t).view.emb y) := by
  have h := dot m c t y
  generalize ((cfg0.win 2).blk t).view.emb y = z at h ⊢
  generalize hb : k0_pay1 (iblk m c 0 t) (iblk m c 1 t) = b at h
  generalize hv : val_main_v0 (F := Ideal) (m ((c : Thread nD τ).loc main_arg0)) (m ((c : Thread nD τ).loc main_arg1)) = v at h
  pointwise [k0_pay2, hb, val_main_v3, val_main_v2, val_main_v1, hv, val_main_call0_v0, val_main_call0_cst]
  rw [h]

/-- The stored positive part. -/
theorem point_r (c : Dev nD) (t : Fin cfg0.N) (y) :
    k0_pay3 (iblk m c 0 t) (iblk m c 1 t) y
      = val_main_v4 (F := Ideal) (m ((c : Thread nD τ).loc main_arg0)) (m ((c : Thread nD τ).loc main_arg1))
          (((cfg0.win 3).blk t).view.emb y) := by
  have h := dot m c t y
  change k0_pay1 (iblk m c 0 t) (iblk m c 1 t) y = val_main_v0 (F := Ideal) (m ((c : Thread nD τ).loc main_arg0)) (m ((c : Thread nD τ).loc main_arg1)) (((cfg0.win 3).blk t).view.emb y) at h
  generalize ((cfg0.win 3).blk t).view.emb y = z at h ⊢
  generalize hb : k0_pay1 (iblk m c 0 t) (iblk m c 1 t) = b at h
  generalize hv : val_main_v0 (F := Ideal) (m ((c : Thread nD τ).loc main_arg0)) (m ((c : Thread nD τ).loc main_arg1)) = v at h
  pointwise [k0_pay3, hb, val_main_v4, val_main_v1, hv, val_main_call0_v0, val_main_call0_cst]
  rw [h]

/-- The first result array after the run. -/
theorem final_p (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point_p m c t y

/-- The second result array after the run. -/
theorem final_r (c : Dev nD) : (dats m 0 c).arrAt 3 (cfgs 0).N
    = val_main_v4 (F := Ideal) (m ((c : Thread nD τ).loc main_arg0)) (m ((c : Thread nD τ).loc main_arg1)) := by
  refine (dats m 0 c).arrAt_eq_of_covers 3 _ (by decide +kernel) fun t hf y => ?_
  blk_simp; rw [after0_3]; frame_out
  exact point_r m c t y

end Cert.Kernel12Ideal.Value12

end
-- ==== Proof.V13.lean ====
module

public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel13Ideal.Value13

open Cert.Kernel13Ideal Cert.Kernel13Ideal.Gen
open Cert.Reference13Ideal.Read

variable (m : (ℓ : Loc nD τ sig) → Buf (Elt Ideal) ℓ)

/-- Every window's block index at every grid point. -/
theorem idx_val : ∀ t : Fin cfg0.N, win0_0.index t = ![t.val, 0]
    ∧ win0_1.index t = ![0, 0, 0]
    ∧ win0_2.index t = ![t.val, 0] :=
  (by decide +kernel : ∀ t : Fin grid0.N, _)

/-- The rows the host hands to the call. -/
theorem host_x (c : Dev nD) (i : S4608x4096.Idx) :
    V m c main_v0 i = (show FVec Ideal S4608x4096 .f32 from m ((c : Thread nD τ).loc main_arg0)) i := by
  entry_read
  pointwise

/-- The weight the host hands to the call. -/
theorem host_w (c : Dev nD) (p : Fin 1) (r : Fin 4096) (l : Fin 1024) :
    V m c main_v2 (ix3 p r l) = (show FVec Ideal S4096x1024 .f32 from m ((c : Thread nD τ).loc main_arg1)) (ix2 r l) := by
  entry_read
  pointwise

/-- The host's weight at any index and the place it stands for. -/
theorem host_w_at (c : Dev nD) (y : S1x4096x1024.Idx) (i : S4096x1024.Idx) (h0 : (y 1).val = (i 0).val) (h1 : (y 2).val = (i 1).val) :
    V m c main_v2 y = (show FVec Ideal S4096x1024 .f32 from m ((c : Thread nD τ).loc main_arg1)) i := by
  idx_vars y
  idx_vars i
  refine (host_w m c _ _ _).trans (congrArg _ ?_)
  exact (ix2_inj ..).2 ⟨Fin.ext h0, Fin.ext h1⟩

/-- What the body stores at a place of its block is the reference's product at the array index it sits at. -/
theorem point (c : Dev nD) (t : Fin cfg0.N) (y) :
    k0_pay1 (iblk m c 0 t) (iblk m c 1 t) y
      = val_main_v0 (F := Ideal) (m ((c : Thread nD τ).loc main_arg0)) (m ((c : Thread nD τ).loc main_arg1))
          (((cfg0.win 2).blk t).view.emb y) := by
  pointwise [k0_pay1, val_main_v0]
  refine Finset.sum_congr rfl fun k _ => Ideal.mul_congr ?_ ?_
  · refine (host_x m c _).trans ?_
    blk_point [idx_val t]
  · refine host_w_at m c _ _ ?_ ?_
    · blk_simp [idx_val t]
    · blk_simp [idx_val t]

/-- The result array after the run is the reference's product. -/
theorem final (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel13Ideal.Value13

end
-- ==== Proof.V14.lean ====
module

public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel14Ideal.Value14

open Cert.Kernel14Ideal Cert.Kernel14Ideal.Gen
open Cert.Reference14Ideal.Read

variable (m : (ℓ : Loc nD τ sig) → Buf (Elt Ideal) ℓ)

/-- Every window's block index at every grid point. -/
theorem idx_val : ∀ t : Fin cfg0.N, win0_0.index t = ![t.val % 3, 0]
    ∧ win0_1.index t = ![0, 0, t.val / 3]
    ∧ win0_2.index t = ![t.val % 3, t.val / 3] :=
  (by decide +kernel : ∀ t : Fin grid0.N, _)

/-- The rows the host hands to the call. -/
theorem host_x (c : Dev nD) (i : S4608x1024.Idx) :
    V m c main_v0 i = (show FVec Ideal S4608x1024 .f32 from m ((c : Thread nD τ).loc main_arg0)) i := by
  entry_read
  pointwise

/-- The weight the host hands to the call. -/
theorem host_w (c : Dev nD) (p : Fin 1) (r : Fin 1024) (l : Fin 2048) :
    V m c main_v2 (ix3 p r l) = (show FVec Ideal S1024x2048 .f32 from m ((c : Thread nD τ).loc main_arg1)) (ix2 r l) := by
  entry_read
  pointwise

/-- The host's weight at any index and the place it stands for. -/
theorem host_w_at (c : Dev nD) (y : S1x1024x2048.Idx) (i : S1024x2048.Idx) (h0 : (y 1).val = (i 0).val) (h1 : (y 2).val = (i 1).val) :
    V m c main_v2 y = (show FVec Ideal S1024x2048 .f32 from m ((c : Thread nD τ).loc main_arg1)) i := by
  idx_vars y
  idx_vars i
  refine (host_w m c _ _ _).trans (congrArg _ ?_)
  exact (ix2_inj ..).2 ⟨Fin.ext h0, Fin.ext h1⟩

/-- What the body stores at a place of its block is the reference's product at the array index it sits at. -/
theorem point (c : Dev nD) (t : Fin cfg0.N) (y) :
    k0_pay1 (iblk m c 0 t) (iblk m c 1 t) y
      = val_main_v0 (F := Ideal) (m ((c : Thread nD τ).loc main_arg0)) (m ((c : Thread nD τ).loc main_arg1))
          (((cfg0.win 2).blk t).view.emb y) := by
  pointwise [k0_pay1, val_main_v0]
  refine Finset.sum_congr rfl fun k _ => Ideal.mul_congr ?_ ?_
  · refine (host_x m c _).trans ?_
    blk_point [idx_val t]
  · refine host_w_at m c _ _ ?_ ?_
    · blk_simp [idx_val t]
    · blk_simp [idx_val t]

/-- The result array after the run is the reference's product. -/
theorem final (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel14Ideal.Value14

end
-- ==== Proof.V15.lean ====
module

public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel15Ideal.Value15

open Cert.Kernel15Ideal Cert.Kernel15Ideal.Gen
open Cert.Reference15Ideal.Read

variable (m : (ℓ : Loc nD τ sig) → Buf (Elt Ideal) ℓ)

/-- Every window's block index at every grid point. -/
theorem idx_val : ∀ t : Fin cfg0.N, win0_0.index t = ![t.val % 3, 0]
    ∧ win0_1.index t = ![0, 0, t.val / 3]
    ∧ win0_2.index t = ![t.val % 3, t.val / 3] :=
  (by decide +kernel : ∀ t : Fin grid0.N, _)

/-- The rows the host hands to the call. -/
theorem host_x (c : Dev nD) (i : S4608x1024.Idx) :
    V m c main_v0 i = (show FVec Ideal S4608x1024 .f32 from m ((c : Thread nD τ).loc main_arg0)) i := by
  entry_read
  pointwise

/-- The weight the host hands to the call. -/
theorem host_w (c : Dev nD) (p : Fin 1) (r : Fin 1024) (l : Fin 2048) :
    V m c main_v2 (ix3 p r l) = (show FVec Ideal S1024x2048 .f32 from m ((c : Thread nD τ).loc main_arg1)) (ix2 r l) := by
  entry_read
  pointwise

/-- The host's weight at any index and the place it stands for. -/
theorem host_w_at (c : Dev nD) (y : S1x1024x2048.Idx) (i : S1024x2048.Idx) (h0 : (y 1).val = (i 0).val) (h1 : (y 2).val = (i 1).val) :
    V m c main_v2 y = (show FVec Ideal S1024x2048 .f32 from m ((c : Thread nD τ).loc main_arg1)) i := by
  idx_vars y
  idx_vars i
  refine (host_w m c _ _ _).trans (congrArg _ ?_)
  exact (ix2_inj ..).2 ⟨Fin.ext h0, Fin.ext h1⟩

/-- What the body stores at a place of its block is the reference's product at the array index it sits at. -/
theorem point (c : Dev nD) (t : Fin cfg0.N) (y) :
    k0_pay1 (iblk m c 0 t) (iblk m c 1 t) y
      = val_main_v0 (F := Ideal) (m ((c : Thread nD τ).loc main_arg0)) (m ((c : Thread nD τ).loc main_arg1))
          (((cfg0.win 2).blk t).view.emb y) := by
  pointwise [k0_pay1, val_main_v0]
  refine Finset.sum_congr rfl fun k _ => Ideal.mul_congr ?_ ?_
  · refine (host_x m c _).trans ?_
    blk_point [idx_val t]
  · refine host_w_at m c _ _ ?_ ?_
    · blk_simp [idx_val t]
    · blk_simp [idx_val t]

/-- The result array after the run is the reference's product. -/
theorem final (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel15Ideal.Value15

end
-- ==== Proof.V16.lean ====
module

public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel16Ideal.Value16

open Cert.Kernel16Ideal Cert.Kernel16Ideal.Gen
open Cert.Reference16Ideal.Read

variable (m : (ℓ : Loc nD τ sig) → Buf (Elt Ideal) ℓ)

/-- Every window's block index at every grid point. -/
theorem idx_val : ∀ t : Fin cfg0.N, win0_0.index t = ![t.val, 0]
    ∧ win0_1.index t = ![0, 0, 0]
    ∧ win0_2.index t = ![t.val, 0] :=
  (by decide +kernel : ∀ t : Fin grid0.N, _)

/-- The rows the host hands to the call. -/
theorem host_x (c : Dev nD) (i : S4608x1024.Idx) :
    V m c main_v0 i = (show FVec Ideal S4608x1024 .f32 from m ((c : Thread nD τ).loc main_arg0)) i := by
  entry_read
  pointwise

/-- The weight the host hands to the call. -/
theorem host_w (c : Dev nD) (p : Fin 1) (r : Fin 1024) (l : Fin 1024) :
    V m c main_v2 (ix3 p r l) = (show FVec Ideal S1024x1024 .f32 from m ((c : Thread nD τ).loc main_arg1)) (ix2 r l) := by
  entry_read
  pointwise

/-- The host's weight at any index and the place it stands for. -/
theorem host_w_at (c : Dev nD) (y : S1x1024x1024.Idx) (i : S1024x1024.Idx) (h0 : (y 1).val = (i 0).val) (h1 : (y 2).val = (i 1).val) :
    V m c main_v2 y = (show FVec Ideal S1024x1024 .f32 from m ((c : Thread nD τ).loc main_arg1)) i := by
  idx_vars y
  idx_vars i
  refine (host_w m c _ _ _).trans (congrArg _ ?_)
  exact (ix2_inj ..).2 ⟨Fin.ext h0, Fin.ext h1⟩

/-- What the body stores at a place of its block is the reference's product at the array index it sits at. -/
theorem point (c : Dev nD) (t : Fin cfg0.N) (y) :
    k0_pay1 (iblk m c 0 t) (iblk m c 1 t) y
      = val_main_v0 (F := Ideal) (m ((c : Thread nD τ).loc main_arg0)) (m ((c : Thread nD τ).loc main_arg1))
          (((cfg0.win 2).blk t).view.emb y) := by
  pointwise [k0_pay1, val_main_v0]
  refine Finset.sum_congr rfl fun k _ => Ideal.mul_congr ?_ ?_
  · refine (host_x m c _).trans ?_
    blk_point [idx_val t]
  · refine host_w_at m c _ _ ?_ ?_
    · blk_simp [idx_val t]
    · blk_simp [idx_val t]

/-- The result array after the run is the reference's product. -/
theorem final (c : Dev nD) : (dats m 0 c).arrAt 2 (cfgs 0).N
    = val_main_v0 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.Kernel16Ideal.Value16

end
-- ==== Proof.V17.lean ====
module

public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel17Ideal.Value17

open Cert.Kernel17Ideal Cert.Kernel17Ideal.Gen
open Cert.Reference17Ideal.Read

variable (m : (ℓ : Loc nD τ sig) → Buf (Elt Ideal) ℓ)

/-- The row tile of a step: a latent tile's two examples side by side, then the context's tiles. -/
def tile (k : ℕ) : ℕ := if k < 16 then k % 8 * 2 + k / 8 else k

theorem tile_lt (s : Fin 18) (k : Fin 256) : tile s.val * 256 + k.val < 4608 := by
  unfold tile; split <;> omega

/-- Every window's block index at every grid point. -/
theorem idx_val : ∀ t : Fin cfg0.N, win0_0.index t = ![tile t.val, 0]
    ∧ win0_1.index t = ![0, 0]
    ∧ win0_2.index t = ![tile t.val, 0] :=
  (by decide +kernel : ∀ t : Fin grid0.N, _)

/-- A channel row the host hands to the call. -/
theorem host_0 (c : Dev nD) (p : Fin 1) (l : Fin 2048) :
    V m c main_v0 (ix2 p l) = (show FVec Ideal S2048 .f32 from m ((c : Thread nD τ).loc main_arg1)) (ix1 l) := by
  entry_read
  pointwise

/-- What the body stores, in terms of the rows it reads. -/
theorem step {x0 : FVec Ideal S256x2048 .f32} {x1 : FVec Ideal S1x2048 .f32} {y0 : FVec Ideal S4608x2048 .f32} {y1 : FVec Ideal S2048 .f32}
    {k : Fin 256} {r : Fin 4608} (h0 : ∀ l, x0 (ix2 k l) = y0 (ix2 r l)) (h1 : ∀ l, x1 (ix2 0 l) = y1 (ix1 l)) (l : Fin 1024) :
    k0_pay1 (F := Ideal) x0 x1 (ix2 k l) = val_main_v11 (F := Ideal) y0 y1 (ix2 r l) := by
  pointwise [k0_pay1, val_main_v0, val_main_v1, val_main_v2, val_main_v3, val_main_v4, val_main_v5, val_main_v6, val_main_cst, val_main_v7, val_main_v8,
    val_main_cst_0, val_main_v9, val_main_v10, val_main_v11, Ideal.logistic]
  simp only [h0, h1]

/-- What the body stores at a place of its block is the reference's value at the array index it sits at. -/
theorem point (c : Dev nD) (t : Fin cfg0.N) (k : Fin 256) (l : Fin 1024) :
    k0_pay1 (F := Ideal) (iblk m c 0 t) (iblk m c 1 t) (ix2 k l)
      = val_main_v11 (F := Ideal) (m ((c : Thread nD τ).loc main_arg0)) (m ((c : Thread nD τ).loc main_arg1)) (ix2 ⟨tile t.val * 256 + k.val, tile_lt t k⟩ l) := by
  have h0 (l : Fin 2048) : (show FVec Ideal S256x2048 .f32 from iblk m c 0 t) (ix2 k l)
      = (show FVec Ideal S4608x2048 .f32 from m ((c : Thread nD τ).loc main_arg0)) (ix2 ⟨tile t.val * 256 + k.val, tile_lt t k⟩ l) := by
    blk_point [iblk, V, idx_val t]
  have h1 (l : Fin 2048) : (show FVec Ideal S1x2048 .f32 from iblk m c 1 t) (ix2 0 l)
      = (show FVec Ideal S2048 .f32 from m ((c : Thread nD τ).loc main_arg1)) (ix1 l) := by
    refine Eq.trans ?_ (host_0 m c 0 l)
    blk_point [iblk, idx_val t]
  exact step h0 h1 l

/-- The result after the run is the reference's. -/
theorem final (c : Dev nD) : (dats m 0 c).arrAt 2 (cfgs 0).N = val_main_v11 (F := Ideal) (m ((c : Thread nD τ).loc main_arg0)) (m ((c : Thread nD τ).loc main_arg1)) := by
  refine (dats m 0 c).arrAt_eq_of_covers 2 _ (by decide +kernel) fun t hf y => ?_
  blk_simp; rw [after0_2]; frame_out
  idx_vars y
  refine (point m c t _ _).trans ?_
  blk_point [idx_val t]

end Cert.Kernel17Ideal.Value17

end
-- ==== Proof.V18.lean ====
module

public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel18Ideal.Value18

open Cert.Kernel18Ideal Cert.Kernel18Ideal.Gen
open Cert.Reference18Ideal.Read

variable (m : (ℓ : Loc nD τ sig) → Buf (Elt Ideal) ℓ)

/-- The row tile of a step: a latent tile's two examples side by side, then the context's tiles. -/
def tile (k : ℕ) : ℕ := if k < 16 then k % 8 * 2 + k / 8 else k

theorem tile_lt (s : Fin 18) (k : Fin 256) : tile s.val * 256 + k.val < 4608 := by
  unfold tile; split <;> omega

/-- Every window's block index at every grid point. -/
theorem idx_val : ∀ t : Fin cfg0.N, win0_0.index t = ![tile t.val, 0]
    ∧ win0_1.index t = ![0, 0]
    ∧ win0_2.index t = ![0, 0]
    ∧ win0_3.index t = ![0, 0]
    ∧ win0_4.index t = ![tile t.val, 0] :=
  (by decide +kernel : ∀ t : Fin grid0.N, _)

/-- A channel row the host hands to the call. -/
theorem host_0 (c : Dev nD) (p : Fin 1) (l : Fin 1024) :
    V m c main_v0 (ix2 p l) = (show FVec Ideal S1024 .f32 from m ((c : Thread nD τ).loc main_arg1)) (ix1 l) := by
  entry_read
  pointwise

/-- A channel row the host hands to the call. -/
theorem host_1 (c : Dev nD) (p : Fin 1) (l : Fin 1024) :
    V m c main_v1 (ix2 p l) = (show FVec Ideal S1024 .f32 from m ((c : Thread nD τ).loc main_arg2)) (ix1 l) := by
  entry_read
  pointwise

/-- A channel row the host hands to the call. -/
theorem host_2 (c : Dev nD) (p : Fin 1) (l : Fin 1024) :
    V m c main_v2 (ix2 p l) = (show FVec Ideal S1024 .f32 from m ((c : Thread nD τ).loc main_arg3)) (ix1 l) := by
  entry_read
  pointwise

/-- What the body stores at a place of its block is the reference's value at the array index it sits at. -/
theorem point (c : Dev nD) (t : Fin cfg0.N) (k : Fin 256) (l : Fin 1024) :
    k0_pay1 (F := Ideal) (iblk m c 0 t) (iblk m c 1 t) (iblk m c 2 t) (iblk m c 3 t) (ix2 k l)
      = val_main_v28 (F := Ideal) (m ((c : Thread nD τ).loc main_arg0)) (m ((c : Thread nD τ).loc main_arg1)) (m ((c : Thread nD τ).loc main_arg2)) (m ((c : Thread nD τ).loc main_arg3)) (ix2 ⟨tile t.val * 256 + k.val, tile_lt t k⟩ l) := by
  have h0 (l : Fin 1024) : (show FVec Ideal S256x1024 .f32 from iblk m c 0 t) (ix2 k l)
      = (show FVec Ideal S4608x1024 .f32 from m ((c : Thread nD τ).loc main_arg0)) (ix2 ⟨tile t.val * 256 + k.val, tile_lt t k⟩ l) := by
    blk_point [iblk, V, idx_val t]
  have h1 (l : Fin 1024) : (show FVec Ideal S1x1024 .f32 from iblk m c 1 t) (ix2 0 l)
      = (show FVec Ideal S1024 .f32 from m ((c : Thread nD τ).loc main_arg1)) (ix1 l) := by
    refine Eq.trans ?_ (host_0 m c 0 l)
    blk_point [iblk, idx_val t]
  have h2 (l : Fin 1024) : (show FVec Ideal S1x1024 .f32 from iblk m c 2 t) (ix2 0 l)
      = (show FVec Ideal S1024 .f32 from m ((c : Thread nD τ).loc main_arg2)) (ix1 l) := by
    refine Eq.trans ?_ (host_1 m c 0 l)
    blk_point [iblk, idx_val t]
  have h3 (l : Fin 1024) : (show FVec Ideal S1x1024 .f32 from iblk m c 3 t) (ix2 0 l)
      = (show FVec Ideal S1024 .f32 from m ((c : Thread nD τ).loc main_arg3)) (ix1 l) := by
    refine Eq.trans ?_ (host_2 m c 0 l)
    blk_point [iblk, idx_val t]
  pointwise [k0_pay1, val_main_v0, val_main_v1, val_main_v2, val_main_cst, val_main_v3, val_main_v4, val_main_cst_0, val_main_v5, val_main_v6,
    val_main_v7, val_main_v8, val_main_v9, val_main_cst_1, val_main_v10, val_main_v11, val_main_cst_2, val_main_v12, val_main_v13,
    val_main_v14, val_main_v15, val_main_cst_3, val_main_v16, val_main_v17, val_main_v18, val_main_v19, val_main_v20, val_main_v21,
    val_main_v22, val_main_v23, val_main_v24, val_main_v25, val_main_v26, val_main_call0_v0, val_main_call0_v1, val_main_call0_cst,
    val_main_call0_v2, val_main_call0_v3, val_main_call0_cst_0, val_main_call0_v4, val_main_call0_v5, val_main_v27, val_main_v28, Ideal.logistic]
  simp only [h0, h1, h2, h3, zero_add]

/-- The result after the run is the reference's. -/
theorem final (c : Dev nD) : (dats m 0 c).arrAt 4 (cfgs 0).N = val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  idx_vars y
  refine (point m c t _ _).trans ?_
  blk_point [idx_val t]

end Cert.Kernel18Ideal.Value18

end
-- ==== Proof.V19.lean ====
module

public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel19Ideal.Value19

open Cert.Kernel19Ideal Cert.Kernel19Ideal.Gen
open Cert.Reference19Ideal.Read

variable (m : (ℓ : Loc nD τ sig) → Buf (Elt Ideal) ℓ)

/-- The row tile of a step: a latent tile's two examples side by side, then the context's tiles. -/
def tile (k : ℕ) : ℕ := if k < 16 then k % 8 * 2 + k / 8 else k

/-- The step at which a row tile is met. -/
def step (k : ℕ) : ℕ := if k < 16 then k % 2 * 8 + k / 2 else k

/-- Every window's block index at every grid point. -/
theorem idx_val : ∀ t : Fin cfg0.N, win0_0.index t = ![tile t.val, 0]
    ∧ win0_1.index t = ![tile t.val, 0]
    ∧ win0_2.index t = ![0, 0]
    ∧ win0_3.index t = ![tile t.val, 0]
    ∧ win0_4.index t = ![0, 0] :=
  (by decide +kernel : ∀ t : Fin grid0.N, _)

/-- The steps and the tiles are in bijection. -/
def tiles : Fin 18 ≃ Fin 18 where
  toFun s := ⟨tile s.val, by unfold tile; split <;> omega⟩
  invFun s := ⟨step s.val, by unfold step; split <;> omega⟩
  left_inv := (by decide : ∀ s : Fin 18, _)
  right_inv := (by decide : ∀ s : Fin 18, _)

theorem tile_lt (s : Fin 18) (k : Fin 256) : tile s.val * 256 + k.val < 4608 := by
  unfold tile; split <;> omega

/-- A sum over the rows, tile by tile in the order of the steps. -/
theorem sum_tiles {M : Type} [AddCommMonoid M] (G : Fin 4608 → M) :
    ∑ s : Fin 18, ∑ k : Fin 256, G ⟨tile s.val * 256 + k.val, tile_lt s k⟩ = ∑ l : Fin 4608, G l :=
  (Equiv.sum_comp tiles (fun s : Fin 18 => ∑ k : Fin 256, G ⟨s.val * 256 + k.val, by omega⟩)).trans
    (Fin.sum_mul_add_congr fun _ _ _ => rfl)

/-- The bias row the host hands to the call. -/
theorem host_b (c : Dev nD) (p : Fin 1) (l : Fin 2048) :
    V m c main_v0 (ix2 p l) = (show FVec Ideal S2048 .f32 from m ((c : Thread nD τ).loc main_arg1)) (ix1 l) := by
  entry_read
  pointwise

/-- The gate's gradient at a place of a block. -/
theorem pay_at (x0 : FVec Ideal S256x2048 .f32) (x1 : FVec Ideal S256x1024 .f32) (x2 : FVec Ideal S1x2048 .f32)
    (k : Fin 256) (l : Fin 2048) :
    k0_pay8 (F := Ideal) x0 x1 x2 (ix2 k l)
      = if h : l.val < 1024 then
          x1 (ix2 k ⟨l.val, h⟩) * Ideal.logistic (x0 (ix2 k ⟨1024 + l.val, by omega⟩) + x2 (ix2 0 ⟨1024 + l.val, by omega⟩))
        else (x0 (ix2 k ⟨l.val - 1024, by omega⟩) + x2 (ix2 0 ⟨l.val - 1024, by omega⟩)) * x1 (ix2 k ⟨l.val - 1024, by omega⟩)
          * (Ideal.logistic (x0 (ix2 k l) + x2 (ix2 0 l)) * (1 - Ideal.logistic (x0 (ix2 k l) + x2 (ix2 0 l)))) := by
  pointwise [k0_pay8, k0_pay6, k0_pay5, k0_pay4, k0_pay3, k0_pay2]
  by_cases h : l.val < 1024
  · rw [dif_pos h, dif_pos h, dif_pos h, zero_add]
  · have e : (⟨1024 + (l.val - 1024), by omega⟩ : Fin 2048) = l := Fin.ext (by show 1024 + (l.val - 1024) = l.val; omega)
    rw [dif_neg h, dif_neg h, dif_neg h, add_zero, e]

/-- The reference's gradient of the gate at a place. -/
theorem ref_at (x0 : FVec Ideal S4608x2048 .f32) (x1 : FVec Ideal S2048 .f32) (x2 : FVec Ideal S4608x1024 .f32)
    (k : Fin 4608) (l : Fin 2048) :
    val_main_v20 (F := Ideal) x0 x1 x2 (ix2 k l)
      = if h : l.val < 1024 then
          x2 (ix2 k ⟨l.val, h⟩) * Ideal.logistic (x0 (ix2 k ⟨1024 + l.val, by omega⟩) + x1 (ix1 ⟨1024 + l.val, by omega⟩))
        else (x0 (ix2 k ⟨l.val - 1024, by omega⟩) + x1 (ix1 ⟨l.val - 1024, by omega⟩)) * x2 (ix2 k ⟨l.val - 1024, by omega⟩)
          * (Ideal.logistic (x0 (ix2 k l) + x1 (ix1 l)) * (1 - Ideal.logistic (x0 (ix2 k l) + x1 (ix1 l)))) := by
  pointwise [val_main_v20, val_main_v19, val_main_v18, val_main_v17, val_main_v16, val_main_v15, val_main_v13, val_main_v12, val_main_v11,
    val_main_v10, val_main_v9, val_main_v8, val_main_v7, val_main_v6, val_main_v5, val_main_v4, val_main_v3, val_main_v2, val_main_v1,
    val_main_v0, val_main_cst, val_main_cst_0, val_main_cst_1, val_main_cst_2, val_main_cst_3, Ideal.logistic]
  by_cases h : l.val < 1024
  · rw [dif_neg (by omega), dif_pos h, dif_pos h, zero_add]
  · have e : (⟨1024 + (l.val - 1024), by omega⟩ : Fin 2048) = l := Fin.ext (by show 1024 + (l.val - 1024) = l.val; omega)
    rw [dif_pos (by omega), dif_neg h, dif_neg h, add_zero, e]

/-- What a block adds to the bias gradient is the column sum of what it stores. -/
theorem pay_sum (x0 : FVec Ideal S256x2048 .f32) (x1 : FVec Ideal S256x1024 .f32) (x2 : FVec Ideal S1x2048 .f32) (j) :
    k0_pay7 (F := Ideal) x0 x1 x2 j = ∑ k : Fin 256, k0_pay8 (F := Ideal) x0 x1 x2 (ix2 k (j 1)) := by
  pointwise [k0_pay7, k0_pay8]
  by_cases h : (j 1).val < 1024
  · simp only [dif_pos h, zero_add]
  · simp only [dif_neg h, add_zero]

/-- The accumulated bias gradient: what the tiles before left, and this tile's. -/
theorem pay_acc (x : FVec Ideal S1x2048 .f32) (acc : FVec Ideal S1x2048 .f32) (j) :
    k0_pay1 (F := Ideal) x acc j = acc j + x j := by
  pointwise [k0_pay1]

/-- The reference's bias gradient is the column sum of its gate gradient. -/
theorem ref_sum (x0 : FVec Ideal S4608x2048 .f32) (x1 : FVec Ideal S2048 .f32) (x2 : FVec Ideal S4608x1024 .f32) (j) :
    val_main_v25 (F := Ideal) x0 x1 x2 j = ∑ k : Fin 4608, val_main_v20 (F := Ideal) x0 x1 x2 (ix2 k (j 1)) := by
  pointwise [val_main_v25, val_main_v23, val_main_v22, val_main_v21, val_main_cst_4, val_main_cst_5]
  simp

/-- What the body stores at a place of its block is the reference's gradient at the array index it sits at. -/
theorem point (c : Dev nD) (t : Fin cfg0.N) (k : Fin 256) (l : Fin 2048) :
    k0_pay8 (iblk m c 0 t) (iblk m c 1 t) (iblk m c 2 t) (ix2 k l)
      = val_main_v20 (F := Ideal) (m ((c : Thread nD τ).loc main_arg0)) (m ((c : Thread nD τ).loc main_arg1))
          (m ((c : Thread nD τ).loc main_arg2)) (ix2 ⟨tile t.val * 256 + k.val, tile_lt t k⟩ l) := by
  rw [pay_at, ref_at]
  have h0 (l : Fin 2048) : (show FVec Ideal S256x2048 .f32 from iblk m c 0 t) (ix2 k l)
      = (show FVec Ideal S4608x2048 .f32 from m ((c : Thread nD τ).loc main_arg0)) (ix2 ⟨tile t.val * 256 + k.val, tile_lt t k⟩ l) := by
    blk_point [iblk, V, idx_val t]
  have h1 (l : Fin 1024) : (show FVec Ideal S256x1024 .f32 from iblk m c 1 t) (ix2 k l)
      = (show FVec Ideal S4608x1024 .f32 from m ((c : Thread nD τ).loc main_arg2)) (ix2 ⟨tile t.val * 256 + k.val, tile_lt t k⟩ l) := by
    blk_point [iblk, V, idx_val t]
  have h2 (l : Fin 2048) : (show FVec Ideal S1x2048 .f32 from iblk m c 2 t) (ix2 0 l)
      = (show FVec Ideal S2048 .f32 from m ((c : Thread nD τ).loc main_arg1)) (ix1 l) := by
    refine Eq.trans ?_ (host_b m c 0 l)
    blk_point [iblk, idx_val t]
  simp only [h0, h1, h2]

/-- The first result after the run is the reference's gradient of the gate. -/
theorem final_z (c : Dev nD) : (dats m 0 c).arrAt 3 (cfgs 0).N
    = val_main_v24 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  have e : (outsAt0 m c t.val t.isLt).1 y = k0_pay8 (iblk m c 0 t) (iblk m c 1 t) (iblk m c 2 t) y := by
    by_cases h : t.val = 0
    · rw [outsAt0_A m c t (by omega) (by omega)]; dsimp only; frame_out
    · have ht : t.val < 18 := t.isLt
      rw [outsAt0_B m c t (by omega) (by omega)]; dsimp only; frame_out
  rw [e]
  idx_vars y
  refine (point m c t _ _).trans ?_
  pointwise [val_main_v24]
  blk_point [idx_val t]

/-- The accumulated bias gradient after the last tile is the reference's. -/
theorem out_b (c : Dev nD) (t : Fin cfg0.N) (hm : t.val % 18 = 17) (j : S1x2048.Idx) :
    (outsAt0 m c t.val t.isLt).2 j = val_main_v25 (F := Ideal) (m ((c : Thread nD τ).loc main_arg0))
      (m ((c : Thread nD τ).loc main_arg1)) (m ((c : Thread nD τ).loc main_arg2)) j := by
  have ht : t.val < 18 := t.isLt
  rw [Pipeline.eq_sum_fin_of_reset_step_apply_of_flush (fun n h => (outsAt0 m c n h).2) 18 (fun _ => (0 : EReal))
    (fun (t : Fin cfg0.N) (j : S1x2048.Idx) => ∑ k : Fin 256, k0_pay8 (iblk m c 0 t) (iblk m c 1 t) (iblk m c 2 t) (ix2 k (j 1)))
    (fun t h j => by
      have ht : t.val < 18 := t.isLt
      rw [outsAt0_A m c t h (by omega)]; frame_out; rw [pay_sum, zero_add])
    (fun t h j => by
      have ht : t.val < 18 := t.isLt
      rw [outsAt0_B m c t h (by omega)]; frame_out; rw [pay_acc, pay_sum])
    t hm j, zero_add, ref_sum]
  refine Eq.trans ?_ (sum_tiles _)
  refine Finset.sum_congr rfl fun s _ => Finset.sum_congr rfl fun k _ => ?_
  have hs : (⟨18 * (t.val / 18) + s.val, Pipeline.run_point_lt_of_flush t hm s⟩ : Fin cfg0.N) = (⟨s.val, s.isLt⟩ : Fin cfg0.N) :=
    Fin.ext (by show 18 * (t.val / 18) + s.val = s.val; omega)
  rw [hs]
  exact point m c _ k _

/-- The second result after the run is the reference's bias gradient. -/
theorem final_b (c : Dev nD) : (dats m 0 c).arrAt 4 (cfgs 0).N
    = val_main_v25 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  refine (out_b m c t ((flush0_4 t).mp hf) y).trans ?_
  blk_point [idx_val t]

end Cert.Kernel19Ideal.Value19

end
-- ==== Proof.H20.lean ====
module

public import proofs.«01_k».proof.Proof.Gen.Reference20Ideal
public import Idealize.ShloMosaic.Lib.StableHlo.Run
public import Idealize.ShloMosaic.Lib.Claim
public import Idealize.ShloMosaic.PureOps.Ideal.Laws
public import Idealize.ShloMosaic.Lib.Pipeline.Value

@[expose] public section

noncomputable section

namespace Cert.Reference20Ideal.Steps

open Cert.Reference20Ideal Cert.Reference20Ideal.Gen Idealize.ShloMosaic Idealize.ShloMosaic.TcCoe Idealize.SL.Sem
open Idealize.ShloMosaic.StableHlo

/-- An array of rows, a column with one number a row, a channel vector, a channel row. -/
abbrev Rows := FVec Ideal S4608x1024 .f32
abbrev Col := FVec Ideal S4608x1 .f32
abbrev Chan := FVec Ideal S1024 .f32
abbrev Row := FVec Ideal S1x1024 .f32

/-- The zero a sum starts from. -/
def zero : FVec Ideal S_ .f32 := constant S_ .f32 0x00000000#32

/-- A channel vector as a row. -/
def asRow (b : Chan) : Row := broadcastInDim S1x1024 ![1] bcast_S1024_S1x1024_1 b

/-- A row under every row. -/
def under (b : Row) : Rows := broadcastInDim S4608x1024 ![0, 1] bcast_S1x1024_S4608x1024_0_1 b

/-- A column over every channel. -/
def over (u : Col) : Rows := broadcastInDim S4608x1024 ![0, 1] bcast_S4608x1_S4608x1024_0_1 u

/-- A number in every row. -/
def every (w : BitVec 32) : Col := broadcastInDim S4608x1 ![] bcast_S_S4608x1 (constant (F := Ideal) S_ .f32 w)

/-- A number at every place. -/
def fill (w : BitVec 32) : Rows := broadcastInDim S4608x1024 ![] bcast_S_S4608x1024 (constant (F := Ideal) S_ .f32 w)

/-- The row sums. -/
def rowSum (x : Rows) : FVec Ideal S4608 .f32 := Host.reduceAdd x zero reducesTo_S4608x1024_S4608_d1 h_S_

/-- The row means, as the forward lines take them. -/
def meanOf (x : Rows) : Col := Host.divf (broadcastInDim S4608x1 ![0] bcast_S4608_S4608x1_0 (rowSum x)) (every 0x44800000#32)

/-- The biased rows. -/
def biased (cv : Rows) (b : Chan) : Rows := addf cv (under (asRow b))

/-- The rows less their means. -/
def centred (x : Rows) : Rows := subf x (over (meanOf x))

/-- The guarded variance. -/
def guarded (x : Rows) : Col := addf (meanOf (mulf (centred x) (centred x))) (every 0x3727C5AC#32)

/-- The reciprocal root of the variance. -/
def invStd (x : Rows) : Col := Host.rsqrt (guarded x)

/-- The derivative of the reciprocal root. -/
def dInvStd (x : Rows) : Col := mulf (every 0xBF000000#32) (Host.divf (invStd x) (guarded x))

/-- The normalised rows. -/
def normed (x : Rows) : Rows := mulf (centred x) (over (invStd x))

/-- The layer norm. -/
def lnOut (x : Rows) (g lb : Chan) : Rows := addf (mulf (normed x) (under (asRow g))) (under (asRow lb))

/-- The logistic of an array. -/
def logi (y : Rows) : Rows := Host.divf (fill 0x3F800000#32) (addf (fill 0x3F800000#32) (Host.exp (Host.negf y)))

/-- The logistic's derivative. -/
def dSig (y : Rows) : Rows := mulf (logi y) (subf (fill 0x3F800000#32) (logi y))

/-- The gradient before the activation. -/
def dAct (y ds : Rows) : Rows := addf (mulf ds (logi y)) (mulf (mulf y ds) (dSig y))

/-- The gradient before the gain. -/
def dNorm (d : Rows) (g : Chan) : Rows := mulf d (under (asRow g))

/-- A sum over the rows, as a row. -/
def colSum (d : Rows) : Row := shapeCast _ (Host.reduceAdd d zero reducesTo_S4608x1024_S1024_d0 h_S_) shapeCasts_S1024_S1x1024

/-- A row, summed over its only row. -/
def flat (r : Row) : Row := shapeCast _ (Host.reduceAdd r zero reducesTo_S1x1024_S1024_d0 h_S_) shapeCasts_S1024_S1x1024

/-- A column divided by the number of channels, under every channel. -/
def spread (u : Col) : Rows :=
  broadcastInDim S4608x1024 ![0] bcast_S4608_S4608x1024_0
    (Host.reduceAdd (Host.divf u (every 0x44800000#32)) zero reducesTo_S4608x1_S4608_d1 h_S_)

/-- The row sums as a column. -/
def sumCol (x : Rows) : Col := shapeCast _ (rowSum x) shapeCasts_S4608_S4608x1

/-- The part of the gradient that comes through the scaled rows. -/
def dDirect (x e : Rows) : Rows := mulf e (over (invStd x))

/-- The part that comes through the variance. -/
def dVar (x e : Rows) : Rows :=
  mulf (spread (mulf (sumCol (mulf (centred x) e)) (dInvStd x))) (mulf (fill 0x40000000#32) (centred x))

/-- The gradient in the biased rows. -/
def dRows (x e : Rows) : Rows :=
  addf (addf (dDirect x e) (dVar x e))
    (spread (addf (sumCol (Host.negf (dDirect x e))) (sumCol (Host.negf (dVar x e)))))

/-- The gradient that reaches the layer norm's result. -/
def dY (cv : Rows) (b g lb : Chan) (ds : Rows) : Rows := dAct (lnOut (biased cv b) g lb) ds

/-- The gradient in the convolution's result. -/
def dCv (cv : Rows) (b g lb : Chan) (ds : Rows) : Rows := dRows (biased cv b) (dNorm (dY cv b g lb ds) g)

set_option maxRecDepth 65536 in
set_option maxHeartbeats 43200000 in
/-- Every fair run of the reference leaves the four gradients in its results, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v66) = dCv (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v70) = flat (colSum (dCv (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))))
      ∧ r.2.mem ((c.tc : Thread nD τ).loc main_v71) = flat (colSum (mulf (normed (biased (m ((c.tc : Thread nD τ).loc main_arg0)) (m ((c.tc : Thread nD τ).loc main_arg1))))
          (dY (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))))
      ∧ r.2.mem ((c.tc : Thread nD τ).loc main_v72) = flat (colSum (dY (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  hlo_run
  all_goals rfl

end Cert.Reference20Ideal.Steps

end
-- ==== Proof.V20.lean ====
module

public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.H20
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel20Ideal.Value20

open Cert.Kernel20Ideal Cert.Kernel20Ideal.Gen
open Cert.Reference20Ideal.Steps

variable (m : (ℓ : Loc nD τ sig) → Buf (Elt Ideal) ℓ)

/-- The row tile of a step: a latent tile's two examples side by side, then the context's tiles. -/
def tile (k : ℕ) : ℕ := if k < 16 then k % 8 * 2 + k / 8 else k

/-- The step at which a row tile is met. -/
def step (k : ℕ) : ℕ := if k < 16 then k % 2 * 8 + k / 2 else k

/-- Every window's block index at every grid point. -/
theorem idx_val : ∀ t : Fin cfg0.N, win0_0.index t = ![tile t.val, 0]
    ∧ win0_1.index t = ![tile t.val, 0]
    ∧ win0_2.index t = ![0, 0]
    ∧ win0_3.index t = ![0, 0]
    ∧ win0_4.index t = ![0, 0]
    ∧ win0_5.index t = ![tile t.val, 0]
    ∧ win0_6.index t = ![0, 0]
    ∧ win0_7.index t = ![0, 0]
    ∧ win0_8.index t = ![0, 0] :=
  (by decide +kernel : ∀ t : Fin grid0.N, _)

/-- The steps and the tiles are in bijection. -/
def tiles : Fin 18 ≃ Fin 18 where
  toFun s := ⟨tile s.val, by unfold tile; split <;> omega⟩
  invFun s := ⟨step s.val, by unfold step; split <;> omega⟩
  left_inv := (by decide : ∀ s : Fin 18, _)
  right_inv := (by decide : ∀ s : Fin 18, _)

theorem tile_lt (s : Fin 18) (k : Fin 256) : tile s.val * 256 + k.val < 4608 := by
  unfold tile; split <;> omega

/-- A sum over the rows, tile by tile in the order of the steps. -/
theorem sum_tiles {M : Type} [AddCommMonoid M] (G : Fin 4608 → M) :
    ∑ s : Fin 18, ∑ k : Fin 256, G ⟨tile s.val * 256 + k.val, tile_lt s k⟩ = ∑ l : Fin 4608, G l :=
  (Equiv.sum_comp tiles (fun s : Fin 18 => ∑ k : Fin 256, G ⟨s.val * 256 + k.val, by omega⟩)).trans
    (Fin.sum_mul_add_congr fun _ _ _ => rfl)

/-- The bias row the host hands to the call. -/
theorem host_0 (c : Dev nD) (p : Fin 1) (l : Fin 1024) :
    V m c main_v0 (ix2 p l) = (show FVec Ideal S1024 .f32 from m ((c : Thread nD τ).loc main_arg1)) (ix1 l) := by
  entry_read
  pointwise

/-- The gain row the host hands to the call. -/
theorem host_1 (c : Dev nD) (p : Fin 1) (l : Fin 1024) :
    V m c main_v1 (ix2 p l) = (show FVec Ideal S1024 .f32 from m ((c : Thread nD τ).loc main_arg2)) (ix1 l) := by
  entry_read
  pointwise

/-- The offset row the host hands to the call. -/
theorem host_2 (c : Dev nD) (p : Fin 1) (l : Fin 1024) :
    V m c main_v2 (ix2 p l) = (show FVec Ideal S1024 .f32 from m ((c : Thread nD τ).loc main_arg3)) (ix1 l) := by
  entry_read
  pointwise

section row

variable {x0 x1 : FVec Ideal S256x1024 .f32} {x2 x3 x4 : FVec Ideal S1x1024 .f32}
  {y0 : FVec Ideal S4608x1024 .f32} {y1 y2 y3 : FVec Ideal S1024 .f32} {y4 : FVec Ideal S4608x1024 .f32} {k : Fin 256} {r : Fin 4608}

/-- The biased row. -/
theorem s_in (h0 : ∀ l, x0 (ix2 k l) = y0 (ix2 r l)) (h1 : ∀ l, x2 (ix2 0 l) = y1 (ix1 l)) (l : Fin 1024) :
    k0_pay5 (F := Ideal) x0 x2 (ix2 k l) = biased y0 y1 (ix2 r l) := by
  pointwise [k0_pay5, biased, under, asRow]
  rw [h0, h1]

variable {x : FVec Ideal S4608x1024 .f32} (hv : ∀ l : Fin 1024, k0_pay5 (F := Ideal) x0 x2 (ix2 k l) = x (ix2 r l))

include hv

/-- The row's mean. -/
theorem s_mean (p : Fin 1) : k0_pay6 (F := Ideal) x0 x2 (ix2 k p) = meanOf x (ix2 r p) := by
  pointwise [k0_pay6, meanOf, rowSum, every, zero]
  simp only [hv, zero_add]

/-- The centred row. -/
theorem s_mid (l : Fin 1024) : k0_pay7 (F := Ideal) x0 x2 (ix2 k l) = centred x (ix2 r l) := by
  pointwise [k0_pay7, centred, over]
  rw [hv, s_mean hv]

/-- The centred row, once more. -/
theorem s_mid' (l : Fin 1024) : k0_pay9 (F := Ideal) x0 x2 (ix2 k l) = centred x (ix2 r l) := by
  pointwise [k0_pay9, centred, over]
  rw [hv, s_mean hv]

/-- Twice the centred row. -/
theorem s_twice (l : Fin 1024) : k0_pay8 (F := Ideal) x0 x2 (ix2 k l) = mulf (fill 0x40000000#32) (centred x) (ix2 r l) := by
  pointwise [k0_pay8, fill]
  rw [s_mid hv]

/-- The row's variance and the guard. -/
theorem s_var (p : Fin 1) : k0_pay10 (F := Ideal) x0 x2 (ix2 k p) = guarded x (ix2 r p) := by
  pointwise [k0_pay10, guarded, meanOf, rowSum, every, zero]
  simp only [s_mid hv, zero_add]

/-- The reciprocal root. -/
theorem s_rsqrt (p : Fin 1) : k0_pay11 (F := Ideal) x0 x2 (ix2 k p) = invStd x (ix2 r p) := by
  pointwise [k0_pay11, invStd]
  rw [s_var hv]

/-- The derivative of the reciprocal root. -/
theorem s_drsqrt (p : Fin 1) : k0_pay12 (F := Ideal) x0 x2 (ix2 k p) = dInvStd x (ix2 r p) := by
  pointwise [k0_pay12, dInvStd, every]
  rw [s_var hv, s_rsqrt hv]

/-- The normalised row. -/
theorem s_norm (l : Fin 1024) : k0_pay13 (F := Ideal) x0 x2 (ix2 k l) = normed x (ix2 r l) := by
  pointwise [k0_pay13, normed, over]
  rw [s_mid' hv, s_rsqrt hv]

variable (h3 : ∀ l, x3 (ix2 0 l) = y2 (ix1 l)) (h4 : ∀ l, x4 (ix2 0 l) = y3 (ix1 l)) (h5 : ∀ l, x1 (ix2 k l) = y4 (ix2 r l))

include h3 h4

/-- The layer norm. -/
theorem s_ln (l : Fin 1024) : k0_pay14 (F := Ideal) x0 x2 x3 x4 (ix2 k l) = lnOut x y2 y3 (ix2 r l) := by
  pointwise [k0_pay14, k0_pay4, lnOut, under, asRow]
  rw [s_norm hv, h3, h4]

/-- Its logistic. -/
theorem s_sig (l : Fin 1024) : k0_pay15 (F := Ideal) x0 x2 x3 x4 (ix2 k l) = logi (lnOut x y2 y3) (ix2 r l) := by
  pointwise [k0_pay15, logi, fill, Ideal.logistic]
  rw [s_ln hv h3 h4]

/-- The logistic's derivative. -/
theorem s_dsig (l : Fin 1024) : k0_pay16 (F := Ideal) x0 x2 x3 x4 (ix2 k l) = dSig (lnOut x y2 y3) (ix2 r l) := by
  pointwise [k0_pay16, dSig, fill]
  rw [s_sig hv h3 h4]

include h5

/-- The gradient before the activation. -/
theorem s_act (l : Fin 1024) :
    k0_pay17 (F := Ideal) x1 (k0_pay14 x0 x2 x3 x4) (k0_pay15 x0 x2 x3 x4) (k0_pay16 x0 x2 x3 x4) (ix2 k l)
      = dAct (lnOut x y2 y3) y4 (ix2 r l) := by
  pointwise [k0_pay17, dAct]
  rw [s_ln hv h3 h4, s_sig hv h3 h4, s_dsig hv h3 h4, h5]
  try simp only [zero_add]

/-- The gradient in the convolution's result. -/
theorem s_out (l : Fin 1024) :
    k0_pay20 (F := Ideal) x1 (k0_pay4 x3) (k0_pay8 x0 x2) (k0_pay9 x0 x2) (k0_pay11 x0 x2) (k0_pay12 x0 x2) (k0_pay14 x0 x2 x3 x4)
      (k0_pay15 x0 x2 x3 x4) (k0_pay16 x0 x2 x3 x4) (ix2 k l) = dRows x (dNorm (dAct (lnOut x y2 y3) y4) y2) (ix2 r l) := by
  have e (l : Fin 1024) := s_twice hv l
  pointwise [fill] at e
  pointwise [k0_pay20, k0_pay4, dRows, dDirect, dVar, spread, sumCol, rowSum, dNorm, under, over, asRow, every, fill, zero]
  simp only [s_act hv h3 h4 h5, e, s_mid' hv, s_rsqrt hv, s_drsqrt hv, h3, zero_add, zero_sub, Fin.sum_univ_one]

end row

/-- The gradient a step stores in its block. -/
def blkD (x0 x1 : FVec Ideal S256x1024 .f32) (x2 x3 x4 : FVec Ideal S1x1024 .f32) : FVec Ideal S256x1024 .f32 :=
  k0_pay20 x1 (k0_pay4 x3) (k0_pay8 x0 x2) (k0_pay9 x0 x2) (k0_pay11 x0 x2) (k0_pay12 x0 x2) (k0_pay14 x0 x2 x3 x4)
    (k0_pay15 x0 x2 x3 x4) (k0_pay16 x0 x2 x3 x4)

/-- The gradient before the activation at a step's block. -/
def blkY (x0 x1 : FVec Ideal S256x1024 .f32) (x2 x3 x4 : FVec Ideal S1x1024 .f32) : FVec Ideal S256x1024 .f32 :=
  k0_pay17 x1 (k0_pay14 x0 x2 x3 x4) (k0_pay15 x0 x2 x3 x4) (k0_pay16 x0 x2 x3 x4)

/-- What a block adds to the bias gradient. -/
theorem sum_b (x0 x1 : FVec Ideal S256x1024 .f32) (x2 x3 x4 : FVec Ideal S1x1024 .f32) (j) :
    k0_pay21 (F := Ideal) x1 (k0_pay4 x3) (k0_pay8 x0 x2) (k0_pay9 x0 x2) (k0_pay11 x0 x2) (k0_pay12 x0 x2) (k0_pay14 x0 x2 x3 x4)
      (k0_pay15 x0 x2 x3 x4) (k0_pay16 x0 x2 x3 x4) j = ∑ k : Fin 256, blkD x0 x1 x2 x3 x4 (ix2 k (j 1)) := by
  pointwise [k0_pay21]
  rfl

/-- What a block adds to the gain's gradient. -/
theorem sum_g (x0 x1 : FVec Ideal S256x1024 .f32) (x2 x3 x4 : FVec Ideal S1x1024 .f32) (j) :
    k0_pay19 (F := Ideal) x1 (k0_pay13 x0 x2) (k0_pay14 x0 x2 x3 x4) (k0_pay15 x0 x2 x3 x4) (k0_pay16 x0 x2 x3 x4) j
      = ∑ k : Fin 256, k0_pay13 (F := Ideal) x0 x2 (ix2 k (j 1)) * blkY x0 x1 x2 x3 x4 (ix2 k (j 1)) := by
  pointwise [k0_pay19]
  rfl

/-- What a block adds to the offset's gradient. -/
theorem sum_o (x0 x1 : FVec Ideal S256x1024 .f32) (x2 x3 x4 : FVec Ideal S1x1024 .f32) (j) :
    k0_pay18 (F := Ideal) x1 (k0_pay14 x0 x2 x3 x4) (k0_pay15 x0 x2 x3 x4) (k0_pay16 x0 x2 x3 x4) j
      = ∑ k : Fin 256, blkY x0 x1 x2 x3 x4 (ix2 k (j 1)) := by
  pointwise [k0_pay18]
  rfl

/-- An accumulator's next contents: what was there, and the block's sum. -/
theorem acc_1 (x acc : FVec Ideal S1x1024 .f32) (j) : k0_pay1 (F := Ideal) x acc j = acc j + x j := by
  pointwise [k0_pay1]

theorem acc_2 (x acc : FVec Ideal S1x1024 .f32) (j) : k0_pay2 (F := Ideal) x acc j = acc j + x j := by
  pointwise [k0_pay2]

theorem acc_3 (x acc : FVec Ideal S1x1024 .f32) (j) : k0_pay3 (F := Ideal) x acc j = acc j + x j := by
  pointwise [k0_pay3]

/-- The reference's sum over the rows. -/
theorem ref_sum (d : FVec Ideal S4608x1024 .f32) (j) : flat (colSum d) j = ∑ k : Fin 4608, d (ix2 k (j 1)) := by
  pointwise [flat, colSum, zero]
  simp

section point

variable (c : Dev nD) (t : Fin cfg0.N) (k : Fin 256) (l : Fin 1024)

/-- The biased row at a step's block. -/
theorem p_in : k0_pay5 (F := Ideal) (iblk m c 0 t) (iblk m c 2 t) (ix2 k l)
    = biased (m ((c : Thread nD τ).loc main_arg0)) (m ((c : Thread nD τ).loc main_arg1)) (ix2 ⟨tile t.val * 256 + k.val, tile_lt t k⟩ l) := by
  refine s_in (fun l => ?_) (fun l => ?_) l
  · blk_point [iblk, V, idx_val t]
  · refine Eq.trans ?_ (host_0 m c 0 l)
    blk_point [iblk, idx_val t]

theorem p_g : (show FVec Ideal S1x1024 .f32 from iblk m c 3 t) (ix2 0 l)
    = (show FVec Ideal S1024 .f32 from m ((c : Thread nD τ).loc main_arg2)) (ix1 l) := by
  refine Eq.trans ?_ (host_1 m c 0 l)
  blk_point [iblk, idx_val t]

theorem p_o : (show FVec Ideal S1x1024 .f32 from iblk m c 4 t) (ix2 0 l)
    = (show FVec Ideal S1024 .f32 from m ((c : Thread nD τ).loc main_arg3)) (ix1 l) := by
  refine Eq.trans ?_ (host_2 m c 0 l)
  blk_point [iblk, idx_val t]

theorem p_ds : (show FVec Ideal S256x1024 .f32 from iblk m c 1 t) (ix2 k l)
    = (show FVec Ideal S4608x1024 .f32 from m ((c : Thread nD τ).loc main_arg4)) (ix2 ⟨tile t.val * 256 + k.val, tile_lt t k⟩ l) := by
  blk_point [iblk, V, idx_val t]

/-- The normalised row at a step's block. -/
theorem p_norm : k0_pay13 (F := Ideal) (iblk m c 0 t) (iblk m c 2 t) (ix2 k l)
    = normed (biased (m ((c : Thread nD τ).loc main_arg0)) (m ((c : Thread nD τ).loc main_arg1)))
        (ix2 ⟨tile t.val * 256 + k.val, tile_lt t k⟩ l) :=
  s_norm (p_in m c t k) l

/-- The gradient before the activation at a step's block. -/
theorem p_y : blkY (iblk m c 0 t) (iblk m c 1 t) (iblk m c 2 t) (iblk m c 3 t) (iblk m c 4 t) (ix2 k l)
    = dY (m ((c : Thread nD τ).loc main_arg0)) (m ((c : Thread nD τ).loc main_arg1)) (m ((c : Thread nD τ).loc main_arg2))
        (m ((c : Thread nD τ).loc main_arg3)) (m ((c : Thread nD τ).loc main_arg4)) (ix2 ⟨tile t.val * 256 + k.val, tile_lt t k⟩ l) :=
  s_act (p_in m c t k) (p_g m c t) (p_o m c t) (p_ds m c t k) l

/-- The gradient in the convolution's result at a step's block. -/
theorem p_d : blkD (iblk m c 0 t) (iblk m c 1 t) (iblk m c 2 t) (iblk m c 3 t) (iblk m c 4 t) (ix2 k l)
    = dCv (m ((c : Thread nD τ).loc main_arg0)) (m ((c : Thread nD τ).loc main_arg1)) (m ((c : Thread nD τ).loc main_arg2))
        (m ((c : Thread nD τ).loc main_arg3)) (m ((c : Thread nD τ).loc main_arg4)) (ix2 ⟨tile t.val * 256 + k.val, tile_lt t k⟩ l) :=
  s_out (p_in m c t k) (p_g m c t) (p_o m c t) (p_ds m c t k) l

end point

/-- The first result after the run is the reference's gradient in the convolution's result. -/
theorem final_d (c : Dev nD) : (dats m 0 c).arrAt 5 (cfgs 0).N
    = dCv (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp; rw [after0_5]
  have e : (outsAt0 m c t.val t.isLt).1 y
      = blkD (iblk m c 0 t) (iblk m c 1 t) (iblk m c 2 t) (iblk m c 3 t) (iblk m c 4 t) y := by
    have ht : t.val < 18 := t.isLt
    by_cases h : t.val = 0
    · rw [outsAt0_A m c t (by omega) (by omega) (by omega) (by omega) (by omega) (by omega)]; dsimp only; frame_out; rfl
    · rw [outsAt0_B m c t (by omega) (by omega) (by omega) (by omega) (by omega) (by omega)]; dsimp only; frame_out; rfl
  rw [e]
  idx_vars y
  refine (p_d m c t _ _).trans ?_
  blk_point [idx_val t]

/-- A step's number in the only round of the steps. -/
theorem step_eq (t : Fin cfg0.N) (hm : t.val % 18 = 17) (s : Fin 18) :
    (⟨18 * (t.val / 18) + s.val, Pipeline.run_point_lt_of_flush t hm s⟩ : Fin cfg0.N) = (⟨s.val, s.isLt⟩ : Fin cfg0.N) := by
  have ht : t.val < 18 := t.isLt
  exact Fin.ext (by show 18 * (t.val / 18) + s.val = s.val; omega)

/-- The accumulated bias gradient after the last tile is the reference's. -/
theorem out_b (c : Dev nD) (t : Fin cfg0.N) (hm : t.val % 18 = 17) (j : S1x1024.Idx) :
    (outsAt0 m c t.val t.isLt).2.1 j = flat (colSum (dCv (m ((c : Thread nD τ).loc main_arg0)) (m ((c : Thread nD τ).loc main_arg1)) (m ((c : Thread nD τ).loc main_arg2))
      (m ((c : Thread nD τ).loc main_arg3)) (m ((c : Thread nD τ).loc main_arg4)))) j := by
  have ht : t.val < 18 := t.isLt
  rw [Pipeline.eq_sum_fin_of_reset_step_apply_of_flush (fun n h => (outsAt0 m c n h).2.1) 18 (fun _ => (0 : EReal))
    (fun (t : Fin cfg0.N) (j : S1x1024.Idx) => ∑ k : Fin 256, blkD (iblk m c 0 t) (iblk m c 1 t) (iblk m c 2 t) (iblk m c 3 t) (iblk m c 4 t) (ix2 k (j 1)))
    (fun t h j => by
      have ht : t.val < 18 := t.isLt
      rw [outsAt0_A m c t (by omega) (by omega) (by omega) (by omega) (by omega) (by omega)]; frame_out; rw [sum_b, zero_add])
    (fun t h j => by
      have ht : t.val < 18 := t.isLt
      rw [outsAt0_B m c t (by omega) (by omega) (by omega) (by omega) (by omega) (by omega)]; frame_out; rw [acc_1, sum_b])
    t hm j, zero_add, ref_sum]
  refine Eq.trans ?_ (sum_tiles _)
  refine Finset.sum_congr rfl fun s _ => Finset.sum_congr rfl fun k _ => ?_
  rw [step_eq t hm s]
  exact p_d m c _ k _

/-- The second result after the run is the reference's bias gradient. -/
theorem final_b (c : Dev nD) : (dats m 0 c).arrAt 6 (cfgs 0).N
    = flat (colSum (dCv (m ((c : Thread nD τ).loc main_arg0)) (m ((c : Thread nD τ).loc main_arg1)) (m ((c : Thread nD τ).loc main_arg2))
      (m ((c : Thread nD τ).loc main_arg3)) (m ((c : Thread nD τ).loc main_arg4)))) := by
  refine (dats m 0 c).arrAt_eq_of_covers 6 _ (by decide +kernel) fun t hf y => ?_
  blk_simp
  rw [after0_6]
  refine (out_b m c t ((flush0_6 t).mp hf) y).trans ?_
  blk_point [idx_val t]

/-- The accumulated gradient of the gain after the last tile is the reference's. -/
theorem out_g (c : Dev nD) (t : Fin cfg0.N) (hm : t.val % 18 = 17) (j : S1x1024.Idx) :
    (outsAt0 m c t.val t.isLt).2.2.1 j = flat (colSum (mulf (normed (biased (m ((c : Thread nD τ).loc main_arg0)) (m ((c : Thread nD τ).loc main_arg1))))
      (dY (m ((c : Thread nD τ).loc main_arg0)) (m ((c : Thread nD τ).loc main_arg1)) (m ((c : Thread nD τ).loc main_arg2))
      (m ((c : Thread nD τ).loc main_arg3)) (m ((c : Thread nD τ).loc main_arg4))))) j := by
  have ht : t.val < 18 := t.isLt
  rw [Pipeline.eq_sum_fin_of_reset_step_apply_of_flush (fun n h => (outsAt0 m c n h).2.2.1) 18 (fun _ => (0 : EReal))
    (fun (t : Fin cfg0.N) (j : S1x1024.Idx) => ∑ k : Fin 256, k0_pay13 (F := Ideal) (iblk m c 0 t) (iblk m c 2 t) (ix2 k (j 1))
      * blkY (iblk m c 0 t) (iblk m c 1 t) (iblk m c 2 t) (iblk m c 3 t) (iblk m c 4 t) (ix2 k (j 1)))
    (fun t h j => by
      have ht : t.val < 18 := t.isLt
      rw [outsAt0_A m c t (by omega) (by omega) (by omega) (by omega) (by omega) (by omega)]; frame_out; rw [sum_g, zero_add])
    (fun t h j => by
      have ht : t.val < 18 := t.isLt
      rw [outsAt0_B m c t (by omega) (by omega) (by omega) (by omega) (by omega) (by omega)]; frame_out; rw [acc_2, sum_g])
    t hm j, zero_add, ref_sum]
  refine Eq.trans ?_ (sum_tiles _)
  refine Finset.sum_congr rfl fun s _ => Finset.sum_congr rfl fun k _ => ?_
  rw [step_eq t hm s]
  exact congrArg₂ (· * ·) (p_norm m c _ k _) (p_y m c _ k _)

/-- The third result after the run is the reference's gradient of the gain. -/
theorem final_g (c : Dev nD) : (dats m 0 c).arrAt 7 (cfgs 0).N
    = flat (colSum (mulf (normed (biased (m ((c : Thread nD τ).loc main_arg0)) (m ((c : Thread nD τ).loc main_arg1))))
      (dY (m ((c : Thread nD τ).loc main_arg0)) (m ((c : Thread nD τ).loc main_arg1)) (m ((c : Thread nD τ).loc main_arg2))
      (m ((c : Thread nD τ).loc main_arg3)) (m ((c : Thread nD τ).loc main_arg4))))) := by
  refine (dats m 0 c).arrAt_eq_of_covers 7 _ (by decide +kernel) fun t hf y => ?_
  blk_simp
  rw [after0_7]
  refine (out_g m c t ((flush0_7 t).mp hf) y).trans ?_
  blk_point [idx_val t]

/-- The accumulated gradient of the offset after the last tile is the reference's. -/
theorem out_o (c : Dev nD) (t : Fin cfg0.N) (hm : t.val % 18 = 17) (j : S1x1024.Idx) :
    (outsAt0 m c t.val t.isLt).2.2.2 j = flat (colSum (dY (m ((c : Thread nD τ).loc main_arg0)) (m ((c : Thread nD τ).loc main_arg1)) (m ((c : Thread nD τ).loc main_arg2))
      (m ((c : Thread nD τ).loc main_arg3)) (m ((c : Thread nD τ).loc main_arg4)))) j := by
  have ht : t.val < 18 := t.isLt
  rw [Pipeline.eq_sum_fin_of_reset_step_apply_of_flush (fun n h => (outsAt0 m c n h).2.2.2) 18 (fun _ => (0 : EReal))
    (fun (t : Fin cfg0.N) (j : S1x1024.Idx) => ∑ k : Fin 256, blkY (iblk m c 0 t) (iblk m c 1 t) (iblk m c 2 t) (iblk m c 3 t) (iblk m c 4 t) (ix2 k (j 1)))
    (fun t h j => by
      have ht : t.val < 18 := t.isLt
      rw [outsAt0_A m c t (by omega) (by omega) (by omega) (by omega) (by omega) (by omega)]; frame_out; rw [sum_o, zero_add])
    (fun t h j => by
      have ht : t.val < 18 := t.isLt
      rw [outsAt0_B m c t (by omega) (by omega) (by omega) (by omega) (by omega) (by omega)]; frame_out; rw [acc_3, sum_o])
    t hm j, zero_add, ref_sum]
  refine Eq.trans ?_ (sum_tiles _)
  refine Finset.sum_congr rfl fun s _ => Finset.sum_congr rfl fun k _ => ?_
  rw [step_eq t hm s]
  exact p_y m c _ k _

/-- The fourth result after the run is the reference's gradient of the offset. -/
theorem final_o (c : Dev nD) : (dats m 0 c).arrAt 8 (cfgs 0).N
    = flat (colSum (dY (m ((c : Thread nD τ).loc main_arg0)) (m ((c : Thread nD τ).loc main_arg1)) (m ((c : Thread nD τ).loc main_arg2))
      (m ((c : Thread nD τ).loc main_arg3)) (m ((c : Thread nD τ).loc main_arg4)))) := by
  refine (dats m 0 c).arrAt_eq_of_covers 8 _ (by decide +kernel) fun t hf y => ?_
  blk_simp
  rw [after0_8]
  refine (out_o m c t ((flush0_8 t).mp hf) y).trans ?_
  blk_point [idx_val t]

end Cert.Kernel20Ideal.Value20

end
-- ==== Proof.V21.lean ====
module

public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel21Ideal.Value21

open Cert.Kernel21Ideal Cert.Kernel21Ideal.Gen
open Cert.Reference21Ideal.Read

variable (m : (ℓ : Loc nD τ sig) → Buf (Elt Ideal) ℓ)

/-- The row tile of a step: a latent tile's two examples side by side, then the context's tiles. -/
def tile (k : ℕ) : ℕ := if k < 16 then k % 8 * 2 + k / 8 else k

theorem tile_lt (s : Fin 18) (k : Fin 256) : tile s.val * 256 + k.val < 4608 := by
  unfold tile; split <;> omega

/-- Every window's block index at every grid point. -/
theorem idx_val : ∀ t : Fin cfg0.N, win0_0.index t = ![tile t.val, 0]
    ∧ win0_1.index t = ![tile t.val, 0]
    ∧ win0_2.index t = ![min (t.val / 8) 2, 0, 0]
    ∧ win0_3.index t = ![min (t.val / 8) 2, 0, 0]
    ∧ win0_4.index t = ![min (t.val / 8) 2, 0, 0]
    ∧ win0_5.index t = ![0, 0]
    ∧ win0_6.index t = ![0, 0]
    ∧ win0_7.index t = ![0, 0]
    ∧ win0_8.index t = ![tile t.val, 0]
    ∧ win0_9.index t = ![tile t.val, 0] :=
  (by decide +kernel : ∀ t : Fin grid0.N, _)

/-- A channel row the host hands to the call. -/
theorem host_0 (c : Dev nD) (p : Fin 1) (l : Fin 1024) :
    V m c main_v0 (ix2 p l) = (show FVec Ideal S1024 .f32 from m ((c : Thread nD τ).loc main_arg5)) (ix1 l) := by
  entry_read
  pointwise

/-- A channel row the host hands to the call. -/
theorem host_1 (c : Dev nD) (p : Fin 1) (l : Fin 1024) :
    V m c main_v1 (ix2 p l) = (show FVec Ideal S1024 .f32 from m ((c : Thread nD τ).loc main_arg6)) (ix1 l) := by
  entry_read
  pointwise

/-- A channel row the host hands to the call. -/
theorem host_2 (c : Dev nD) (p : Fin 1) (l : Fin 1024) :
    V m c main_v2 (ix2 p l) = (show FVec Ideal S1024 .f32 from m ((c : Thread nD τ).loc main_arg7)) (ix1 l) := by
  entry_read
  pointwise

/-- A condition's row at a row of the tokens. -/
theorem seg_12 (y : FVec Ideal S3x1x1024 .f32) (t : Fin 18) (k : Fin 256) (l : Fin 1024) :
    val_main_v12 (F := Ideal) y (ix2 ⟨tile t.val * 256 + k.val, tile_lt t k⟩ l) = y (ix3 ⟨min (t.val / 8) 2, by omega⟩ 0 l) := by
  pointwise [val_main_v5, val_main_v6, val_main_v7, val_main_v8, val_main_v9, val_main_v10, val_main_v11, val_main_v12]
  have ht : t.val < 18 := t.isLt
  by_cases h : t.val < 16
  · have e : tile t.val = t.val % 8 * 2 + t.val / 8 := if_pos h
    rw [dif_pos (by omega)]
    congr 1
    refine congrArg (fun q => ix3 q 0 l) (Fin.ext ?_)
    simp only [e]
    omega
  · have e : tile t.val = t.val := if_neg h
    rw [dif_neg (by omega)]
    congr 1
    refine congrArg (fun q => ix3 q 0 l) (Fin.ext ?_)
    simp only [e]
    omega

/-- A condition's row at a row of the tokens. -/
theorem seg_46 (y : FVec Ideal S3x1x1024 .f32) (t : Fin 18) (k : Fin 256) (l : Fin 1024) :
    val_main_v46 (F := Ideal) y (ix2 ⟨tile t.val * 256 + k.val, tile_lt t k⟩ l) = y (ix3 ⟨min (t.val / 8) 2, by omega⟩ 0 l) := by
  pointwise [val_main_v39, val_main_v40, val_main_v41, val_main_v42, val_main_v43, val_main_v44, val_main_v45, val_main_v46]
  have ht : t.val < 18 := t.isLt
  by_cases h : t.val < 16
  · have e : tile t.val = t.val % 8 * 2 + t.val / 8 := if_pos h
    rw [dif_pos (by omega)]
    congr 1
    refine congrArg (fun q => ix3 q 0 l) (Fin.ext ?_)
    simp only [e]
    omega
  · have e : tile t.val = t.val := if_neg h
    rw [dif_neg (by omega)]
    congr 1
    refine congrArg (fun q => ix3 q 0 l) (Fin.ext ?_)
    simp only [e]
    omega

/-- A condition's row at a row of the tokens. -/
theorem seg_57 (y : FVec Ideal S3x1x1024 .f32) (t : Fin 18) (k : Fin 256) (l : Fin 1024) :
    val_main_v57 (F := Ideal) y (ix2 ⟨tile t.val * 256 + k.val, tile_lt t k⟩ l) = y (ix3 ⟨min (t.val / 8) 2, by omega⟩ 0 l) := by
  pointwise [val_main_v50, val_main_v51, val_main_v52, val_main_v53, val_main_v54, val_main_v55, val_main_v56, val_main_v57]
  have ht : t.val < 18 := t.isLt
  by_cases h : t.val < 16
  · have e : tile t.val = t.val % 8 * 2 + t.val / 8 := if_pos h
    rw [dif_pos (by omega)]
    congr 1
    refine congrArg (fun q => ix3 q 0 l) (Fin.ext ?_)
    simp only [e]
    omega
  · have e : tile t.val = t.val := if_neg h
    rw [dif_neg (by omega)]
    congr 1
    refine congrArg (fun q => ix3 q 0 l) (Fin.ext ?_)
    simp only [e]
    omega

section row

variable {x0 : FVec Ideal S256x1024 .f32} {x1 : FVec Ideal S256x1024 .f32} {x2 x3 x4 : FVec Ideal S1x1x1024 .f32} {x5 : FVec Ideal S1x1024 .f32} {x6 : FVec Ideal S1x1024 .f32} {x7 : FVec Ideal S1x1024 .f32}
  {y0 : FVec Ideal S4608x1024 .f32} {y1 : FVec Ideal S4608x1024 .f32} {y2 y3 y4 : FVec Ideal S3x1x1024 .f32} {y5 : FVec Ideal S1024 .f32} {y6 : FVec Ideal S1024 .f32} {y7 : FVec Ideal S1024 .f32}
  {k : Fin 256} {r : Fin 4608}
  (h0 : ∀ l, x0 (ix2 k l) = y0 (ix2 r l)) (h1 : ∀ l, x1 (ix2 k l) = y1 (ix2 r l)) (h2 : ∀ l, x2 (ix3 0 0 l) = val_main_v12 (F := Ideal) y2 (ix2 r l)) (h5 : ∀ l, x5 (ix2 0 l) = y5 (ix1 l)) (h6 : ∀ l, x6 (ix2 0 l) = y6 (ix1 l)) (h7 : ∀ l, x7 (ix2 0 l) = y7 (ix1 l))

include h0 h1 h2 h5 h6 h7

/-- The stored rows at a place. -/
theorem s_x (l : Fin 1024) :
    k0_pay1 (F := Ideal) (k0_pay5 x6) (k0_pay6 x7) (k0_pay9 x0 x1 x2 x5) (k0_pay10 x0 x1 x2 x5) (Scalar.ofBits .f32 0x3727C5AC#32) (ix2 k l) = val_main_v38 (F := Ideal) y0 y1 y2 y5 y6 y7 (ix2 r l) := by
  pointwise [k0_pay1, k0_pay5, k0_pay6, k0_pay7, k0_pay8, k0_pay9, k0_pay10, val_main_v0, val_main_v1, val_main_v2, val_main_cst, val_main_v3,
    val_main_v4, val_main_v13, val_main_v14, val_main_cst_0, val_main_v15, val_main_v16, val_main_cst_1, val_main_v17, val_main_v18,
    val_main_v19, val_main_v20, val_main_v21, val_main_cst_2, val_main_v22, val_main_v23, val_main_cst_3, val_main_v24, val_main_v25,
    val_main_v26, val_main_v27, val_main_cst_4, val_main_v28, val_main_v29, val_main_v30, val_main_v31, val_main_v32, val_main_v33,
    val_main_v34, val_main_v35, val_main_v36, val_main_v37, val_main_v38, Ideal.logistic]
  simp only [h0, h1, h2, h5, h6, h7, zero_add]

/-- The stored modulated rows at a place. -/
theorem s_h (h3 : ∀ l, x3 (ix3 0 0 l) = val_main_v57 (F := Ideal) y3 (ix2 r l))
    (h4 : ∀ l, x4 (ix3 0 0 l) = val_main_v46 (F := Ideal) y4 (ix2 r l)) (l : Fin 1024) :
    k0_pay2 (F := Ideal) (k0_pay3 x3) (k0_pay4 x4) (k0_pay5 x6) (k0_pay6 x7) (k0_pay9 x0 x1 x2 x5) (k0_pay10 x0 x1 x2 x5) (Scalar.ofBits .f32 0x3727C5AC#32) (ix2 k l) = val_main_v59 (F := Ideal) y0 y1 y2 y3 y4 y5 y6 y7 (ix2 r l) := by
  have e : k0_pay1 (F := Ideal) (k0_pay5 x6) (k0_pay6 x7) (k0_pay9 x0 x1 x2 x5) (k0_pay10 x0 x1 x2 x5) (Ideal.ofBits .f32 0x3727C5AC#32) (ix2 k l) = val_main_v38 (F := Ideal) y0 y1 y2 y5 y6 y7 (ix2 r l) := s_x h0 h1 h2 h5 h6 h7 l
  pointwise [k0_pay2, k0_pay3, k0_pay4, val_main_cst_5, val_main_v47, val_main_v48, val_main_v49, val_main_v58, val_main_v59]
  rw [e, h3, h4]

end row

section point

variable (c : Dev nD) (t : Fin cfg0.N) (k : Fin 256)

theorem b_0 (l : Fin 1024) : (show FVec Ideal S256x1024 .f32 from iblk m c 0 t) (ix2 k l)
    = (show FVec Ideal S4608x1024 .f32 from m ((c : Thread nD τ).loc main_arg0)) (ix2 ⟨tile t.val * 256 + k.val, tile_lt t k⟩ l) := by
  blk_point [iblk, V, idx_val t]

theorem b_1 (l : Fin 1024) : (show FVec Ideal S256x1024 .f32 from iblk m c 1 t) (ix2 k l)
    = (show FVec Ideal S4608x1024 .f32 from m ((c : Thread nD τ).loc main_arg1)) (ix2 ⟨tile t.val * 256 + k.val, tile_lt t k⟩ l) := by
  blk_point [iblk, V, idx_val t]

theorem b_2 (l : Fin 1024) : (show FVec Ideal S1x1x1024 .f32 from iblk m c 2 t) (ix3 0 0 l)
    = val_main_v12 (F := Ideal) (m ((c : Thread nD τ).loc main_arg2)) (ix2 ⟨tile t.val * 256 + k.val, tile_lt t k⟩ l) := by
  refine Eq.trans ?_ (seg_12 _ t k l).symm
  blk_point [iblk, V, idx_val t]

theorem b_3 (l : Fin 1024) : (show FVec Ideal S1x1x1024 .f32 from iblk m c 3 t) (ix3 0 0 l)
    = val_main_v57 (F := Ideal) (m ((c : Thread nD τ).loc main_arg3)) (ix2 ⟨tile t.val * 256 + k.val, tile_lt t k⟩ l) := by
  refine Eq.trans ?_ (seg_57 _ t k l).symm
  blk_point [iblk, V, idx_val t]

theorem b_4 (l : Fin 1024) : (show FVec Ideal S1x1x1024 .f32 from iblk m c 4 t) (ix3 0 0 l)
    = val_main_v46 (F := Ideal) (m ((c : Thread nD τ).loc main_arg4)) (ix2 ⟨tile t.val * 256 + k.val, tile_lt t k⟩ l) := by
  refine Eq.trans ?_ (seg_46 _ t k l).symm
  blk_point [iblk, V, idx_val t]

theorem b_5 (l : Fin 1024) : (show FVec Ideal S1x1024 .f32 from iblk m c 5 t) (ix2 0 l)
    = (show FVec Ideal S1024 .f32 from m ((c : Thread nD τ).loc main_arg5)) (ix1 l) := by
  refine Eq.trans ?_ (host_0 m c 0 l)
  blk_point [iblk, idx_val t]

theorem b_6 (l : Fin 1024) : (show FVec Ideal S1x1024 .f32 from iblk m c 6 t) (ix2 0 l)
    = (show FVec Ideal S1024 .f32 from m ((c : Thread nD τ).loc main_arg6)) (ix1 l) := by
  refine Eq.trans ?_ (host_1 m c 0 l)
  blk_point [iblk, idx_val t]

theorem b_7 (l : Fin 1024) : (show FVec Ideal S1x1024 .f32 from iblk m c 7 t) (ix2 0 l)
    = (show FVec Ideal S1024 .f32 from m ((c : Thread nD τ).loc main_arg7)) (ix1 l) := by
  refine Eq.trans ?_ (host_2 m c 0 l)
  blk_point [iblk, idx_val t]

/-- What the body stores in its first block is the reference's first result there. -/
theorem point_x (l : Fin 1024) :
    k0_pay1 (F := Ideal) (k0_pay5 (iblk m c 6 t)) (k0_pay6 (iblk m c 7 t)) (k0_pay9 (iblk m c 0 t) (iblk m c 1 t) (iblk m c 2 t) (iblk m c 5 t)) (k0_pay10 (iblk m c 0 t) (iblk m c 1 t) (iblk m c 2 t) (iblk m c 5 t)) (Scalar.ofBits .f32 0x3727C5AC#32) (ix2 k l)
      = val_main_v38 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (ix2 ⟨tile t.val * 256 + k.val, tile_lt t k⟩ l) :=
  s_x (b_0 m c t k) (b_1 m c t k) (b_2 m c t k) (b_5 m c t) (b_6 m c t) (b_7 m c t) l

/-- What the body stores in its second block is the reference's second result there. -/
theorem point_h (l : Fin 1024) :
    k0_pay2 (F := Ideal) (k0_pay3 (iblk m c 3 t)) (k0_pay4 (iblk m c 4 t)) (k0_pay5 (iblk m c 6 t)) (k0_pay6 (iblk m c 7 t)) (k0_pay9 (iblk m c 0 t) (iblk m c 1 t) (iblk m c 2 t) (iblk m c 5 t)) (k0_pay10 (iblk m c 0 t) (iblk m c 1 t) (iblk m c 2 t) (iblk m c 5 t)) (Scalar.ofBits .f32 0x3727C5AC#32) (ix2 k l)
      = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨tile t.val * 256 + k.val, tile_lt t k⟩ l) :=
  s_h (b_0 m c t k) (b_1 m c t k) (b_2 m c t k) (b_5 m c t) (b_6 m c t) (b_7 m c t) (b_3 m c t k) (b_4 m c t k) l

end point

/-- The first result after the run is the reference's. -/
theorem final_x (c : Dev nD) : (dats m 0 c).arrAt 8 (cfgs 0).N
    = val_main_v38 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp; rw [after0_8]; unfold_out out0_8; frame_out
  idx_vars y
  refine (point_x m c t _ _).trans ?_
  blk_point [idx_val t]

/-- The second result after the run is the reference's. -/
theorem final_h (c : Dev nD) : (dats m 0 c).arrAt 9 (cfgs 0).N
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp; rw [after0_9]; unfold_out out0_9; frame_out
  idx_vars y
  refine (point_h m c t _ _).trans ?_
  blk_point [idx_val t]

end Cert.Kernel21Ideal.Value21

end
-- ==== Proof.V22.lean ====
module

public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel22Ideal.Value22

open Cert.Kernel22Ideal Cert.Kernel22Ideal.Gen
open Cert.Reference22Ideal.Read

variable (m : (ℓ : Loc nD τ sig) → Buf (Elt Ideal) ℓ)

/-- The row tile of a step: a latent tile's two examples side by side, then the context's tiles. -/
def tile (k : ℕ) : ℕ := if k < 16 then k % 8 * 2 + k / 8 else k

theorem tile_lt (s : Fin 18) (k : Fin 256) : tile s.val * 256 + k.val < 4608 := by
  unfold tile; split <;> omega

/-- Every window's block index at every grid point. -/
theorem idx_val : ∀ t : Fin cfg0.N, win0_0.index t = ![tile t.val, 0]
    ∧ win0_1.index t = ![tile t.val, 0]
    ∧ win0_2.index t = ![min (t.val / 8) 2, 0, 0]
    ∧ win0_3.index t = ![min (t.val / 8) 2, 0, 0]
    ∧ win0_4.index t = ![min (t.val / 8) 2, 0, 0]
    ∧ win0_5.index t = ![0, 0]
    ∧ win0_6.index t = ![0, 0]
    ∧ win0_7.index t = ![0, 0]
    ∧ win0_8.index t = ![tile t.val, 0]
    ∧ win0_9.index t = ![tile t.val, 0] :=
  (by decide +kernel : ∀ t : Fin grid0.N, _)

/-- A channel row the host hands to the call. -/
theorem host_0 (c : Dev nD) (p : Fin 1) (l : Fin 2048) :
    V m c main_v0 (ix2 p l) = (show FVec Ideal S2048 .f32 from m ((c : Thread nD τ).loc main_arg5)) (ix1 l) := by
  entry_read
  pointwise

/-- A channel row the host hands to the call. -/
theorem host_1 (c : Dev nD) (p : Fin 1) (l : Fin 1024) :
    V m c main_v1 (ix2 p l) = (show FVec Ideal S1024 .f32 from m ((c : Thread nD τ).loc main_arg6)) (ix1 l) := by
  entry_read
  pointwise

/-- A channel row the host hands to the call. -/
theorem host_2 (c : Dev nD) (p : Fin 1) (l : Fin 1024) :
    V m c main_v2 (ix2 p l) = (show FVec Ideal S1024 .f32 from m ((c : Thread nD τ).loc main_arg7)) (ix1 l) := by
  entry_read
  pointwise

/-- A condition's row at a row of the tokens. -/
theorem seg_21 (y : FVec Ideal S3x1x1024 .f32) (t : Fin 18) (k : Fin 256) (l : Fin 1024) :
    val_main_v21 (F := Ideal) y (ix2 ⟨tile t.val * 256 + k.val, tile_lt t k⟩ l) = y (ix3 ⟨min (t.val / 8) 2, by omega⟩ 0 l) := by
  pointwise [val_main_v14, val_main_v15, val_main_v16, val_main_v17, val_main_v18, val_main_v19, val_main_v20, val_main_v21]
  have ht : t.val < 18 := t.isLt
  by_cases h : t.val < 16
  · have e : tile t.val = t.val % 8 * 2 + t.val / 8 := if_pos h
    rw [dif_pos (by omega)]
    congr 1
    refine congrArg (fun q => ix3 q 0 l) (Fin.ext ?_)
    simp only [e]
    omega
  · have e : tile t.val = t.val := if_neg h
    rw [dif_neg (by omega)]
    congr 1
    refine congrArg (fun q => ix3 q 0 l) (Fin.ext ?_)
    simp only [e]
    omega

/-- A condition's row at a row of the tokens. -/
theorem seg_55 (y : FVec Ideal S3x1x1024 .f32) (t : Fin 18) (k : Fin 256) (l : Fin 1024) :
    val_main_v55 (F := Ideal) y (ix2 ⟨tile t.val * 256 + k.val, tile_lt t k⟩ l) = y (ix3 ⟨min (t.val / 8) 2, by omega⟩ 0 l) := by
  pointwise [val_main_v48, val_main_v49, val_main_v50, val_main_v51, val_main_v52, val_main_v53, val_main_v54, val_main_v55]
  have ht : t.val < 18 := t.isLt
  by_cases h : t.val < 16
  · have e : tile t.val = t.val % 8 * 2 + t.val / 8 := if_pos h
    rw [dif_pos (by omega)]
    congr 1
    refine congrArg (fun q => ix3 q 0 l) (Fin.ext ?_)
    simp only [e]
    omega
  · have e : tile t.val = t.val := if_neg h
    rw [dif_neg (by omega)]
    congr 1
    refine congrArg (fun q => ix3 q 0 l) (Fin.ext ?_)
    simp only [e]
    omega

/-- A condition's row at a row of the tokens. -/
theorem seg_66 (y : FVec Ideal S3x1x1024 .f32) (t : Fin 18) (k : Fin 256) (l : Fin 1024) :
    val_main_v66 (F := Ideal) y (ix2 ⟨tile t.val * 256 + k.val, tile_lt t k⟩ l) = y (ix3 ⟨min (t.val / 8) 2, by omega⟩ 0 l) := by
  pointwise [val_main_v59, val_main_v60, val_main_v61, val_main_v62, val_main_v63, val_main_v64, val_main_v65, val_main_v66]
  have ht : t.val < 18 := t.isLt
  by_cases h : t.val < 16
  · have e : tile t.val = t.val % 8 * 2 + t.val / 8 := if_pos h
    rw [dif_pos (by omega)]
    congr 1
    refine congrArg (fun q => ix3 q 0 l) (Fin.ext ?_)
    simp only [e]
    omega
  · have e : tile t.val = t.val := if_neg h
    rw [dif_neg (by omega)]
    congr 1
    refine congrArg (fun q => ix3 q 0 l) (Fin.ext ?_)
    simp only [e]
    omega

section row

variable {x0 : FVec Ideal S256x1024 .f32} {x1 : FVec Ideal S256x2048 .f32} {x2 x3 x4 : FVec Ideal S1x1x1024 .f32} {x5 : FVec Ideal S1x2048 .f32} {x6 : FVec Ideal S1x1024 .f32} {x7 : FVec Ideal S1x1024 .f32}
  {y0 : FVec Ideal S4608x1024 .f32} {y1 : FVec Ideal S4608x2048 .f32} {y2 y3 y4 : FVec Ideal S3x1x1024 .f32} {y5 : FVec Ideal S2048 .f32} {y6 : FVec Ideal S1024 .f32} {y7 : FVec Ideal S1024 .f32}
  {k : Fin 256} {r : Fin 4608}
  (h0 : ∀ l, x0 (ix2 k l) = y0 (ix2 r l)) (h1 : ∀ l, x1 (ix2 k l) = y1 (ix2 r l)) (h2 : ∀ l, x2 (ix3 0 0 l) = val_main_v21 (F := Ideal) y2 (ix2 r l)) (h5 : ∀ l, x5 (ix2 0 l) = y5 (ix1 l)) (h6 : ∀ l, x6 (ix2 0 l) = y6 (ix1 l)) (h7 : ∀ l, x7 (ix2 0 l) = y7 (ix1 l))

include h0 h1 h2 h5 h6 h7

/-- The stored rows at a place. -/
theorem s_x (l : Fin 1024) :
    k0_pay1 (F := Ideal) (k0_pay5 x6) (k0_pay6 x7) (k0_pay7 x0 x1 x2 x5) (k0_pay8 x0 x1 x2 x5) (k0_pay9 x0 x1 x2 x5) (ix2 k l) = val_main_v47 (F := Ideal) y0 y1 y2 y5 y6 y7 (ix2 r l) := by
  pointwise [k0_pay1, k0_pay5, k0_pay6, k0_pay7, k0_pay8, k0_pay9, val_main_v0, val_main_v1, val_main_v2, val_main_v3, val_main_v4, val_main_v5,
    val_main_v6, val_main_cst, val_main_v7, val_main_v8, val_main_cst_0, val_main_v9, val_main_v10, val_main_v11, val_main_cst_1,
    val_main_v12, val_main_v13, val_main_v22, val_main_v23, val_main_cst_2, val_main_v24, val_main_v25, val_main_cst_3, val_main_v26,
    val_main_v27, val_main_v28, val_main_v29, val_main_v30, val_main_cst_4, val_main_v31, val_main_v32, val_main_cst_5, val_main_v33,
    val_main_v34, val_main_v35, val_main_v36, val_main_cst_6, val_main_v37, val_main_v38, val_main_v39, val_main_v40, val_main_v41,
    val_main_v42, val_main_v43, val_main_v44, val_main_v45, val_main_v46, val_main_v47, Ideal.logistic]
  simp only [h0, h1, h2, h5, h6, h7, zero_add]

/-- The stored modulated rows at a place. -/
theorem s_h (h3 : ∀ l, x3 (ix3 0 0 l) = val_main_v66 (F := Ideal) y3 (ix2 r l))
    (h4 : ∀ l, x4 (ix3 0 0 l) = val_main_v55 (F := Ideal) y4 (ix2 r l)) (l : Fin 1024) :
    k0_pay2 (F := Ideal) (k0_pay3 x3) (k0_pay4 x4) (k0_pay5 x6) (k0_pay6 x7) (k0_pay7 x0 x1 x2 x5) (k0_pay8 x0 x1 x2 x5) (k0_pay9 x0 x1 x2 x5) (ix2 k l) = val_main_v68 (F := Ideal) y0 y1 y2 y3 y4 y5 y6 y7 (ix2 r l) := by
  have e : k0_pay1 (F := Ideal) (k0_pay5 x6) (k0_pay6 x7) (k0_pay7 x0 x1 x2 x5) (k0_pay8 x0 x1 x2 x5) (k0_pay9 x0 x1 x2 x5) (ix2 k l) = val_main_v47 (F := Ideal) y0 y1 y2 y5 y6 y7 (ix2 r l) := s_x h0 h1 h2 h5 h6 h7 l
  pointwise [k0_pay2, k0_pay3, k0_pay4, val_main_cst_7, val_main_v56, val_main_v57, val_main_v58, val_main_v67, val_main_v68]
  rw [e, h3, h4]

end row

section point

variable (c : Dev nD) (t : Fin cfg0.N) (k : Fin 256)

theorem b_0 (l : Fin 1024) : (show FVec Ideal S256x1024 .f32 from iblk m c 0 t) (ix2 k l)
    = (show FVec Ideal S4608x1024 .f32 from m ((c : Thread nD τ).loc main_arg0)) (ix2 ⟨tile t.val * 256 + k.val, tile_lt t k⟩ l) := by
  blk_point [iblk, V, idx_val t]

theorem b_1 (l : Fin 2048) : (show FVec Ideal S256x2048 .f32 from iblk m c 1 t) (ix2 k l)
    = (show FVec Ideal S4608x2048 .f32 from m ((c : Thread nD τ).loc main_arg1)) (ix2 ⟨tile t.val * 256 + k.val, tile_lt t k⟩ l) := by
  blk_point [iblk, V, idx_val t]

theorem b_2 (l : Fin 1024) : (show FVec Ideal S1x1x1024 .f32 from iblk m c 2 t) (ix3 0 0 l)
    = val_main_v21 (F := Ideal) (m ((c : Thread nD τ).loc main_arg2)) (ix2 ⟨tile t.val * 256 + k.val, tile_lt t k⟩ l) := by
  refine Eq.trans ?_ (seg_21 _ t k l).symm
  blk_point [iblk, V, idx_val t]

theorem b_3 (l : Fin 1024) : (show FVec Ideal S1x1x1024 .f32 from iblk m c 3 t) (ix3 0 0 l)
    = val_main_v66 (F := Ideal) (m ((c : Thread nD τ).loc main_arg3)) (ix2 ⟨tile t.val * 256 + k.val, tile_lt t k⟩ l) := by
  refine Eq.trans ?_ (seg_66 _ t k l).symm
  blk_point [iblk, V, idx_val t]

theorem b_4 (l : Fin 1024) : (show FVec Ideal S1x1x1024 .f32 from iblk m c 4 t) (ix3 0 0 l)
    = val_main_v55 (F := Ideal) (m ((c : Thread nD τ).loc main_arg4)) (ix2 ⟨tile t.val * 256 + k.val, tile_lt t k⟩ l) := by
  refine Eq.trans ?_ (seg_55 _ t k l).symm
  blk_point [iblk, V, idx_val t]

theorem b_5 (l : Fin 2048) : (show FVec Ideal S1x2048 .f32 from iblk m c 5 t) (ix2 0 l)
    = (show FVec Ideal S2048 .f32 from m ((c : Thread nD τ).loc main_arg5)) (ix1 l) := by
  refine Eq.trans ?_ (host_0 m c 0 l)
  blk_point [iblk, idx_val t]

theorem b_6 (l : Fin 1024) : (show FVec Ideal S1x1024 .f32 from iblk m c 6 t) (ix2 0 l)
    = (show FVec Ideal S1024 .f32 from m ((c : Thread nD τ).loc main_arg6)) (ix1 l) := by
  refine Eq.trans ?_ (host_1 m c 0 l)
  blk_point [iblk, idx_val t]

theorem b_7 (l : Fin 1024) : (show FVec Ideal S1x1024 .f32 from iblk m c 7 t) (ix2 0 l)
    = (show FVec Ideal S1024 .f32 from m ((c : Thread nD τ).loc main_arg7)) (ix1 l) := by
  refine Eq.trans ?_ (host_2 m c 0 l)
  blk_point [iblk, idx_val t]

/-- What the body stores in its first block is the reference's first result there. -/
theorem point_x (l : Fin 1024) :
    k0_pay1 (F := Ideal) (k0_pay5 (iblk m c 6 t)) (k0_pay6 (iblk m c 7 t)) (k0_pay7 (iblk m c 0 t) (iblk m c 1 t) (iblk m c 2 t) (iblk m c 5 t)) (k0_pay8 (iblk m c 0 t) (iblk m c 1 t) (iblk m c 2 t) (iblk m c 5 t)) (k0_pay9 (iblk m c 0 t) (iblk m c 1 t) (iblk m c 2 t) (iblk m c 5 t)) (ix2 k l)
      = val_main_v47 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (ix2 ⟨tile t.val * 256 + k.val, tile_lt t k⟩ l) :=
  s_x (b_0 m c t k) (b_1 m c t k) (b_2 m c t k) (b_5 m c t) (b_6 m c t) (b_7 m c t) l

/-- What the body stores in its second block is the reference's second result there. -/
theorem point_h (l : Fin 1024) :
    k0_pay2 (F := Ideal) (k0_pay3 (iblk m c 3 t)) (k0_pay4 (iblk m c 4 t)) (k0_pay5 (iblk m c 6 t)) (k0_pay6 (iblk m c 7 t)) (k0_pay7 (iblk m c 0 t) (iblk m c 1 t) (iblk m c 2 t) (iblk m c 5 t)) (k0_pay8 (iblk m c 0 t) (iblk m c 1 t) (iblk m c 2 t) (iblk m c 5 t)) (k0_pay9 (iblk m c 0 t) (iblk m c 1 t) (iblk m c 2 t) (iblk m c 5 t)) (ix2 k l)
      = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨tile t.val * 256 + k.val, tile_lt t k⟩ l) :=
  s_h (b_0 m c t k) (b_1 m c t k) (b_2 m c t k) (b_5 m c t) (b_6 m c t) (b_7 m c t) (b_3 m c t k) (b_4 m c t k) l

end point

/-- The first result after the run is the reference's. -/
theorem final_x (c : Dev nD) : (dats m 0 c).arrAt 8 (cfgs 0).N
    = val_main_v47 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp; rw [after0_8]; unfold_out out0_8; frame_out
  idx_vars y
  refine (point_x m c t _ _).trans ?_
  blk_point [idx_val t]

/-- The second result after the run is the reference's. -/
theorem final_h (c : Dev nD) : (dats m 0 c).arrAt 9 (cfgs 0).N
    = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp; rw [after0_9]; unfold_out out0_9; frame_out
  idx_vars y
  refine (point_h m c t _ _).trans ?_
  blk_point [idx_val t]

end Cert.Kernel22Ideal.Value22

end
-- ==== Proof.V23.lean ====
module

public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel23Ideal.Value23

open Cert.Kernel23Ideal Cert.Kernel23Ideal.Gen
open Cert.Reference23Ideal.Read

variable (m : (ℓ : Loc nD τ sig) → Buf (Elt Ideal) ℓ)

/-- The row tile of a step: a latent tile's two examples side by side, then the context's tiles. -/
def tile (k : ℕ) : ℕ := if k < 16 then k % 8 * 2 + k / 8 else k

theorem tile_lt (s : Fin 18) (k : Fin 256) : tile s.val * 256 + k.val < 4608 := by
  unfold tile; split <;> omega

/-- Every window's block index at every grid point. -/
theorem idx_val : ∀ t : Fin cfg0.N, win0_0.index t = ![tile t.val, 0]
    ∧ win0_1.index t = ![tile t.val, 0]
    ∧ win0_2.index t = ![min (t.val / 8) 2, 0, 0]
    ∧ win0_3.index t = ![min (t.val / 8) 2, 0, 0]
    ∧ win0_4.index t = ![min (t.val / 8) 2, 0, 0]
    ∧ win0_5.index t = ![0, 0]
    ∧ win0_6.index t = ![0, 0]
    ∧ win0_7.index t = ![tile t.val, 0]
    ∧ win0_8.index t = ![tile t.val, 0] :=
  (by decide +kernel : ∀ t : Fin grid0.N, _)

/-- A channel row the host hands to the call. -/
theorem host_0 (c : Dev nD) (p : Fin 1) (l : Fin 1024) :
    V m c main_v0 (ix2 p l) = (show FVec Ideal S1024 .f32 from m ((c : Thread nD τ).loc main_arg5)) (ix1 l) := by
  entry_read
  pointwise

/-- A channel row the host hands to the call. -/
theorem host_1 (c : Dev nD) (p : Fin 1) (l : Fin 1024) :
    V m c main_v1 (ix2 p l) = (show FVec Ideal S1024 .f32 from m ((c : Thread nD τ).loc main_arg6)) (ix1 l) := by
  entry_read
  pointwise

/-- A condition's row at a row of the tokens. -/
theorem seg_9 (y : FVec Ideal S3x1x1024 .f32) (t : Fin 18) (k : Fin 256) (l : Fin 1024) :
    val_main_v9 (F := Ideal) y (ix2 ⟨tile t.val * 256 + k.val, tile_lt t k⟩ l) = y (ix3 ⟨min (t.val / 8) 2, by omega⟩ 0 l) := by
  pointwise [val_main_v2, val_main_v3, val_main_v4, val_main_v5, val_main_v6, val_main_v7, val_main_v8, val_main_v9]
  have ht : t.val < 18 := t.isLt
  by_cases h : t.val < 16
  · have e : tile t.val = t.val % 8 * 2 + t.val / 8 := if_pos h
    rw [dif_pos (by omega)]
    congr 1
    refine congrArg (fun q => ix3 q 0 l) (Fin.ext ?_)
    simp only [e]
    omega
  · have e : tile t.val = t.val := if_neg h
    rw [dif_neg (by omega)]
    congr 1
    refine congrArg (fun q => ix3 q 0 l) (Fin.ext ?_)
    simp only [e]
    omega

/-- A condition's row at a row of the tokens. -/
theorem seg_43 (y : FVec Ideal S3x1x1024 .f32) (t : Fin 18) (k : Fin 256) (l : Fin 1024) :
    val_main_v43 (F := Ideal) y (ix2 ⟨tile t.val * 256 + k.val, tile_lt t k⟩ l) = y (ix3 ⟨min (t.val / 8) 2, by omega⟩ 0 l) := by
  pointwise [val_main_v36, val_main_v37, val_main_v38, val_main_v39, val_main_v40, val_main_v41, val_main_v42, val_main_v43]
  have ht : t.val < 18 := t.isLt
  by_cases h : t.val < 16
  · have e : tile t.val = t.val % 8 * 2 + t.val / 8 := if_pos h
    rw [dif_pos (by omega)]
    congr 1
    refine congrArg (fun q => ix3 q 0 l) (Fin.ext ?_)
    simp only [e]
    omega
  · have e : tile t.val = t.val := if_neg h
    rw [dif_neg (by omega)]
    congr 1
    refine congrArg (fun q => ix3 q 0 l) (Fin.ext ?_)
    simp only [e]
    omega

/-- A condition's row at a row of the tokens. -/
theorem seg_54 (y : FVec Ideal S3x1x1024 .f32) (t : Fin 18) (k : Fin 256) (l : Fin 1024) :
    val_main_v54 (F := Ideal) y (ix2 ⟨tile t.val * 256 + k.val, tile_lt t k⟩ l) = y (ix3 ⟨min (t.val / 8) 2, by omega⟩ 0 l) := by
  pointwise [val_main_v47, val_main_v48, val_main_v49, val_main_v50, val_main_v51, val_main_v52, val_main_v53, val_main_v54]
  have ht : t.val < 18 := t.isLt
  by_cases h : t.val < 16
  · have e : tile t.val = t.val % 8 * 2 + t.val / 8 := if_pos h
    rw [dif_pos (by omega)]
    congr 1
    refine congrArg (fun q => ix3 q 0 l) (Fin.ext ?_)
    simp only [e]
    omega
  · have e : tile t.val = t.val := if_neg h
    rw [dif_neg (by omega)]
    congr 1
    refine congrArg (fun q => ix3 q 0 l) (Fin.ext ?_)
    simp only [e]
    omega

section row

variable {x0 : FVec Ideal S256x1024 .f32} {x1 : FVec Ideal S256x1024 .f32} {x2 x3 x4 : FVec Ideal S1x1x1024 .f32} {x5 : FVec Ideal S1x1024 .f32} {x6 : FVec Ideal S1x1024 .f32}
  {y0 : FVec Ideal S4608x1024 .f32} {y1 : FVec Ideal S4608x1024 .f32} {y2 y3 y4 : FVec Ideal S3x1x1024 .f32} {y5 : FVec Ideal S1024 .f32} {y6 : FVec Ideal S1024 .f32}
  {k : Fin 256} {r : Fin 4608}
  (h0 : ∀ l, x0 (ix2 k l) = y0 (ix2 r l)) (h1 : ∀ l, x1 (ix2 k l) = y1 (ix2 r l)) (h2 : ∀ l, x2 (ix3 0 0 l) = val_main_v9 (F := Ideal) y2 (ix2 r l)) (h5 : ∀ l, x5 (ix2 0 l) = y5 (ix1 l)) (h6 : ∀ l, x6 (ix2 0 l) = y6 (ix1 l))

include h0 h1 h2 h5 h6

/-- The stored rows at a place. -/
theorem s_x (l : Fin 1024) :
    k0_pay1 (F := Ideal) (k0_pay5 x6) (k0_pay6 x0 x1 x2) (k0_pay7 x5) (ix2 k l) = val_main_v35 (F := Ideal) y0 y1 y2 y5 y6 (ix2 r l) := by
  pointwise [k0_pay1, k0_pay5, k0_pay6, k0_pay7, val_main_cst, val_main_v0, val_main_v1, val_main_v10, val_main_v11, val_main_cst_0,
    val_main_v12, val_main_v13, val_main_cst_1, val_main_v14, val_main_v15, val_main_v16, val_main_v17, val_main_v18, val_main_cst_2,
    val_main_v19, val_main_v20, val_main_cst_3, val_main_v21, val_main_v22, val_main_v23, val_main_v24, val_main_cst_4, val_main_v25,
    val_main_v26, val_main_v27, val_main_v28, val_main_v29, val_main_v30, val_main_v31, val_main_v32, val_main_v33, val_main_v34,
    val_main_v35, Ideal.logistic]
  simp only [h0, h1, h2, h5, h6, zero_add]

/-- The stored modulated rows at a place. -/
theorem s_h (h3 : ∀ l, x3 (ix3 0 0 l) = val_main_v54 (F := Ideal) y3 (ix2 r l))
    (h4 : ∀ l, x4 (ix3 0 0 l) = val_main_v43 (F := Ideal) y4 (ix2 r l)) (l : Fin 1024) :
    k0_pay2 (F := Ideal) (k0_pay3 x3) (k0_pay4 x4) (k0_pay5 x6) (k0_pay6 x0 x1 x2) (k0_pay7 x5) (ix2 k l) = val_main_v56 (F := Ideal) y0 y1 y2 y3 y4 y5 y6 (ix2 r l) := by
  have e : k0_pay1 (F := Ideal) (k0_pay5 x6) (k0_pay6 x0 x1 x2) (k0_pay7 x5) (ix2 k l) = val_main_v35 (F := Ideal) y0 y1 y2 y5 y6 (ix2 r l) := s_x h0 h1 h2 h5 h6 l
  pointwise [k0_pay2, k0_pay3, k0_pay4, val_main_cst_5, val_main_v44, val_main_v45, val_main_v46, val_main_v55, val_main_v56]
  rw [e, h3, h4]

end row

section point

variable (c : Dev nD) (t : Fin cfg0.N) (k : Fin 256)

theorem b_0 (l : Fin 1024) : (show FVec Ideal S256x1024 .f32 from iblk m c 0 t) (ix2 k l)
    = (show FVec Ideal S4608x1024 .f32 from m ((c : Thread nD τ).loc main_arg0)) (ix2 ⟨tile t.val * 256 + k.val, tile_lt t k⟩ l) := by
  blk_point [iblk, V, idx_val t]

theorem b_1 (l : Fin 1024) : (show FVec Ideal S256x1024 .f32 from iblk m c 1 t) (ix2 k l)
    = (show FVec Ideal S4608x1024 .f32 from m ((c : Thread nD τ).loc main_arg1)) (ix2 ⟨tile t.val * 256 + k.val, tile_lt t k⟩ l) := by
  blk_point [iblk, V, idx_val t]

theorem b_2 (l : Fin 1024) : (show FVec Ideal S1x1x1024 .f32 from iblk m c 2 t) (ix3 0 0 l)
    = val_main_v9 (F := Ideal) (m ((c : Thread nD τ).loc main_arg2)) (ix2 ⟨tile t.val * 256 + k.val, tile_lt t k⟩ l) := by
  refine Eq.trans ?_ (seg_9 _ t k l).symm
  blk_point [iblk, V, idx_val t]

theorem b_3 (l : Fin 1024) : (show FVec Ideal S1x1x1024 .f32 from iblk m c 3 t) (ix3 0 0 l)
    = val_main_v54 (F := Ideal) (m ((c : Thread nD τ).loc main_arg3)) (ix2 ⟨tile t.val * 256 + k.val, tile_lt t k⟩ l) := by
  refine Eq.trans ?_ (seg_54 _ t k l).symm
  blk_point [iblk, V, idx_val t]

theorem b_4 (l : Fin 1024) : (show FVec Ideal S1x1x1024 .f32 from iblk m c 4 t) (ix3 0 0 l)
    = val_main_v43 (F := Ideal) (m ((c : Thread nD τ).loc main_arg4)) (ix2 ⟨tile t.val * 256 + k.val, tile_lt t k⟩ l) := by
  refine Eq.trans ?_ (seg_43 _ t k l).symm
  blk_point [iblk, V, idx_val t]

theorem b_5 (l : Fin 1024) : (show FVec Ideal S1x1024 .f32 from iblk m c 5 t) (ix2 0 l)
    = (show FVec Ideal S1024 .f32 from m ((c : Thread nD τ).loc main_arg5)) (ix1 l) := by
  refine Eq.trans ?_ (host_0 m c 0 l)
  blk_point [iblk, idx_val t]

theorem b_6 (l : Fin 1024) : (show FVec Ideal S1x1024 .f32 from iblk m c 6 t) (ix2 0 l)
    = (show FVec Ideal S1024 .f32 from m ((c : Thread nD τ).loc main_arg6)) (ix1 l) := by
  refine Eq.trans ?_ (host_1 m c 0 l)
  blk_point [iblk, idx_val t]

/-- What the body stores in its first block is the reference's first result there. -/
theorem point_x (l : Fin 1024) :
    k0_pay1 (F := Ideal) (k0_pay5 (iblk m c 6 t)) (k0_pay6 (iblk m c 0 t) (iblk m c 1 t) (iblk m c 2 t)) (k0_pay7 (iblk m c 5 t)) (ix2 k l)
      = val_main_v35 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 ⟨tile t.val * 256 + k.val, tile_lt t k⟩ l) :=
  s_x (b_0 m c t k) (b_1 m c t k) (b_2 m c t k) (b_5 m c t) (b_6 m c t) l

/-- What the body stores in its second block is the reference's second result there. -/
theorem point_h (l : Fin 1024) :
    k0_pay2 (F := Ideal) (k0_pay3 (iblk m c 3 t)) (k0_pay4 (iblk m c 4 t)) (k0_pay5 (iblk m c 6 t)) (k0_pay6 (iblk m c 0 t) (iblk m c 1 t) (iblk m c 2 t)) (k0_pay7 (iblk m c 5 t)) (ix2 k l)
      = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨tile t.val * 256 + k.val, tile_lt t k⟩ l) :=
  s_h (b_0 m c t k) (b_1 m c t k) (b_2 m c t k) (b_5 m c t) (b_6 m c t) (b_3 m c t k) (b_4 m c t k) l

end point

/-- The first result after the run is the reference's. -/
theorem final_x (c : Dev nD) : (dats m 0 c).arrAt 7 (cfgs 0).N
    = val_main_v35 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 7 _ (by decide +kernel) fun t hf y => ?_
  blk_simp; rw [after0_7]; unfold_out out0_7; frame_out
  idx_vars y
  refine (point_x m c t _ _).trans ?_
  blk_point [idx_val t]

/-- The second result after the run is the reference's. -/
theorem final_h (c : Dev nD) : (dats m 0 c).arrAt 8 (cfgs 0).N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp; rw [after0_8]; unfold_out out0_8; frame_out
  idx_vars y
  refine (point_h m c t _ _).trans ?_
  blk_point [idx_val t]

end Cert.Kernel23Ideal.Value23

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.S5
public import proofs.«01_k».proof.Proof.S5Bits
public import proofs.«01_k».proof.Proof.Gen.Kernel2.Frame
public import proofs.«01_k».proof.Proof.Gen.Kernel2Ideal.Frame
public import proofs.«01_k».proof.Proof.Gen.Reference2Ideal.Run
public import proofs.«01_k».proof.Proof.V2
public import proofs.«01_k».proof.Proof.Gen.Kernel3.Frame
public import proofs.«01_k».proof.Proof.Gen.Kernel3Ideal.Frame
public import proofs.«01_k».proof.Proof.Gen.Reference3Ideal.Run
public import proofs.«01_k».proof.Proof.V3
public import proofs.«01_k».proof.Proof.Gen.Kernel4.Frame
public import proofs.«01_k».proof.Proof.Gen.Kernel4Ideal.Frame
public import proofs.«01_k».proof.Proof.Gen.Reference4Ideal.Run
public import proofs.«01_k».proof.Proof.V4
public import proofs.«01_k».proof.Proof.Gen.Kernel5.Frame
public import proofs.«01_k».proof.Proof.Gen.Kernel5Ideal.Frame
public import proofs.«01_k».proof.Proof.Gen.Reference5Ideal.Run
public import proofs.«01_k».proof.Proof.V5
public import proofs.«01_k».proof.Proof.Gen.Kernel6.Frame
public import proofs.«01_k».proof.Proof.Gen.Kernel6Ideal.Frame
public import proofs.«01_k».proof.Proof.Gen.Reference6Ideal.Run
public import proofs.«01_k».proof.Proof.V6
public import proofs.«01_k».proof.Proof.Gen.Kernel7.Frame
public import proofs.«01_k».proof.Proof.Gen.Kernel7Ideal.Frame
public import proofs.«01_k».proof.Proof.Gen.Reference7Ideal.Run
public import proofs.«01_k».proof.Proof.V7
public import proofs.«01_k».proof.Proof.Gen.Kernel8.Frame
public import proofs.«01_k».proof.Proof.Gen.Kernel8Ideal.Frame
public import proofs.«01_k».proof.Proof.Gen.Reference8Ideal.Run
public import proofs.«01_k».proof.Proof.V8
public import proofs.«01_k».proof.Proof.Gen.Kernel9.Frame
public import proofs.«01_k».proof.Proof.Gen.Kernel9Ideal.Frame
public import proofs.«01_k».proof.Proof.Gen.Reference9Ideal.Run
public import proofs.«01_k».proof.Proof.V9
public import proofs.«01_k».proof.Proof.Gen.Kernel10.Frame
public import proofs.«01_k».proof.Proof.Gen.Kernel10Ideal.Frame
public import proofs.«01_k».proof.Proof.Gen.Reference10Ideal.Run
public import proofs.«01_k».proof.Proof.V10
public import proofs.«01_k».proof.Proof.Gen.Kernel11.Frame
public import proofs.«01_k».proof.Proof.Gen.Kernel11Ideal.Frame
public import proofs.«01_k».proof.Proof.Gen.Reference11Ideal.Run
public import proofs.«01_k».proof.Proof.V11
public import proofs.«01_k».proof.Proof.Gen.Kernel12.Frame
public import proofs.«01_k».proof.Proof.Gen.Kernel12Ideal.Frame
public import proofs.«01_k».proof.Proof.Gen.Reference12Ideal.Run
public import proofs.«01_k».proof.Proof.V12
public import proofs.«01_k».proof.Proof.Gen.Kernel13.Frame
public import proofs.«01_k».proof.Proof.Gen.Kernel13Ideal.Frame
public import proofs.«01_k».proof.Proof.Gen.Reference13Ideal.Run
public import proofs.«01_k».proof.Proof.V13
public import proofs.«01_k».proof.Proof.Gen.Kernel14.Frame
public import proofs.«01_k».proof.Proof.Gen.Kernel14Ideal.Frame
public import proofs.«01_k».proof.Proof.Gen.Reference14Ideal.Run
public import proofs.«01_k».proof.Proof.V14
public import proofs.«01_k».proof.Proof.Gen.Kernel15.Frame
public import proofs.«01_k».proof.Proof.Gen.Kernel15Ideal.Frame
public import proofs.«01_k».proof.Proof.Gen.Reference15Ideal.Run
public import proofs.«01_k».proof.Proof.V15
public import proofs.«01_k».proof.Proof.Gen.Kernel16.Frame
public import proofs.«01_k».proof.Proof.Gen.Kernel16Ideal.Frame
public import proofs.«01_k».proof.Proof.Gen.Reference16Ideal.Run
public import proofs.«01_k».proof.Proof.V16
public import proofs.«01_k».proof.Proof.Gen.Kernel17.Frame
public import proofs.«01_k».proof.Proof.Gen.Kernel17Ideal.Frame
public import proofs.«01_k».proof.Proof.Gen.Reference17Ideal.Run
public import proofs.«01_k».proof.Proof.V17
public import proofs.«01_k».proof.Proof.Gen.Kernel18.Frame
public import proofs.«01_k».proof.Proof.Gen.Kernel18Ideal.Frame
public import proofs.«01_k».proof.Proof.Gen.Reference18Ideal.Run
public import proofs.«01_k».proof.Proof.V18
public import proofs.«01_k».proof.Proof.Gen.Kernel19.Frame
public import proofs.«01_k».proof.Proof.Gen.Kernel19Ideal.Frame
public import proofs.«01_k».proof.Proof.Gen.Reference19Ideal.Run
public import proofs.«01_k».proof.Proof.V19
public import proofs.«01_k».proof.Proof.Gen.Kernel20.Frame
public import proofs.«01_k».proof.Proof.Gen.Kernel20Ideal.Frame
public import proofs.«01_k».proof.Proof.H20
public import proofs.«01_k».proof.Proof.V20
public import proofs.«01_k».proof.Proof.Gen.Kernel21.Frame
public import proofs.«01_k».proof.Proof.Gen.Kernel21Ideal.Frame
public import proofs.«01_k».proof.Proof.Gen.Reference21Ideal.Run
public import proofs.«01_k».proof.Proof.V21
public import proofs.«01_k».proof.Proof.Gen.Kernel22.Frame
public import proofs.«01_k».proof.Proof.Gen.Kernel22Ideal.Frame
public import proofs.«01_k».proof.Proof.Gen.Reference22Ideal.Run
public import proofs.«01_k».proof.Proof.V22
public import proofs.«01_k».proof.Proof.Gen.Kernel23.Frame
public import proofs.«01_k».proof.Proof.Gen.Kernel23Ideal.Frame
public import proofs.«01_k».proof.Proof.Gen.Reference23Ideal.Run
public import proofs.«01_k».proof.Proof.V23
public import Idealize.ShloMosaic.Lib.Claim
public import Idealize.ShloMosaic.Lib.Quiescent

@[expose] public section

noncomputable section

namespace Cert.Proof

open Idealize.ShloMosaic Idealize.SL.Sem

theorem frame_ReferenceIdeal : Cert.quiescent_ReferenceIdeal := fun m g _ =>
  (θ_run _ _ _).mono (fun r h => ⟨fun c => (h c).2, sem_eq_zero_of_no_sems (by decide) r.2⟩) (Cert.ReferenceIdeal.Value.run m g)

theorem frame_Reference2Ideal : Cert.quiescent_Reference2Ideal := fun m g _ =>
  (θ_run _ _ _).mono (fun r h => ⟨fun c => (h c).2, sem_eq_zero_of_no_sems (by decide) r.2⟩) (Cert.Reference2Ideal.Value.run m g)

theorem frame_Reference3Ideal : Cert.quiescent_Reference3Ideal := fun m g _ =>
  (θ_run _ _ _).mono (fun r h => ⟨fun c => (h c).2, sem_eq_zero_of_no_sems (by decide) r.2⟩) (Cert.Reference3Ideal.Value.run m g)

theorem frame_Reference4Ideal : Cert.quiescent_Reference4Ideal := fun m g _ =>
  (θ_run _ _ _).mono (fun r h => ⟨fun c => (h c).2, sem_eq_zero_of_no_sems (by decide) r.2⟩) (Cert.Reference4Ideal.Value.run m g)

theorem frame_Reference5Ideal : Cert.quiescent_Reference5Ideal := fun m g _ =>
  (θ_run _ _ _).mono (fun r h => ⟨fun c => (h c).2, sem_eq_zero_of_no_sems (by decide) r.2⟩) (Cert.Reference5Ideal.Value.run m g)

theorem frame_Reference6Ideal : Cert.quiescent_Reference6Ideal := fun m g _ =>
  (θ_run _ _ _).mono (fun r h => ⟨fun c => (h c).2, sem_eq_zero_of_no_sems (by decide) r.2⟩) (Cert.Reference6Ideal.Value.run m g)

theorem frame_Reference7Ideal : Cert.quiescent_Reference7Ideal := fun m g _ =>
  (θ_run _ _ _).mono (fun r h => ⟨fun c => (h c).2, sem_eq_zero_of_no_sems (by decide) r.2⟩) (Cert.Reference7Ideal.Value.run m g)

theorem frame_Reference8Ideal : Cert.quiescent_Reference8Ideal := fun m g _ =>
  (θ_run _ _ _).mono (fun r h => ⟨fun c => (h c).2, sem_eq_zero_of_no_sems (by decide) r.2⟩) (Cert.Reference8Ideal.Value.run m g)

theorem frame_Reference9Ideal : Cert.quiescent_Reference9Ideal := fun m g _ =>
  (θ_run _ _ _).mono (fun r h => ⟨fun c => (h c).2, sem_eq_zero_of_no_sems (by decide) r.2⟩) (Cert.Reference9Ideal.Value.run m g)

theorem frame_Reference10Ideal : Cert.quiescent_Reference10Ideal := fun m g _ =>
  (θ_run _ _ _).mono (fun r h => ⟨fun c => (h c).2, sem_eq_zero_of_no_sems (by decide) r.2⟩) (Cert.Reference10Ideal.Value.run m g)

theorem frame_Reference11Ideal : Cert.quiescent_Reference11Ideal := fun m g _ =>
  (θ_run _ _ _).mono (fun r h => ⟨fun c => (h c).2, sem_eq_zero_of_no_sems (by decide) r.2⟩) (Cert.Reference11Ideal.Value.run m g)

theorem frame_Reference12Ideal : Cert.quiescent_Reference12Ideal := fun m g _ =>
  (θ_run _ _ _).mono (fun r h => ⟨fun c => (h c).2.2, sem_eq_zero_of_no_sems (by decide) r.2⟩) (Cert.Reference12Ideal.Value.run m g)

theorem frame_Reference13Ideal : Cert.quiescent_Reference13Ideal := fun m g _ =>
  (θ_run _ _ _).mono (fun r h => ⟨fun c => (h c).2, sem_eq_zero_of_no_sems (by decide) r.2⟩) (Cert.Reference13Ideal.Value.run m g)

theorem frame_Reference14Ideal : Cert.quiescent_Reference14Ideal := fun m g _ =>
  (θ_run _ _ _).mono (fun r h => ⟨fun c => (h c).2, sem_eq_zero_of_no_sems (by decide) r.2⟩) (Cert.Reference14Ideal.Value.run m g)

theorem frame_Reference15Ideal : Cert.quiescent_Reference15Ideal := fun m g _ =>
  (θ_run _ _ _).mono (fun r h => ⟨fun c => (h c).2, sem_eq_zero_of_no_sems (by decide) r.2⟩) (Cert.Reference15Ideal.Value.run m g)

theorem frame_Reference16Ideal : Cert.quiescent_Reference16Ideal := fun m g _ =>
  (θ_run _ _ _).mono (fun r h => ⟨fun c => (h c).2, sem_eq_zero_of_no_sems (by decide) r.2⟩) (Cert.Reference16Ideal.Value.run m g)

theorem frame_Reference17Ideal : Cert.quiescent_Reference17Ideal := fun m g _ =>
  (θ_run _ _ _).mono (fun r h => ⟨fun c => (h c).2, sem_eq_zero_of_no_sems (by decide) r.2⟩) (Cert.Reference17Ideal.Value.run m g)

theorem frame_Reference18Ideal : Cert.quiescent_Reference18Ideal := fun m g _ =>
  (θ_run _ _ _).mono (fun r h => ⟨fun c => (h c).2, sem_eq_zero_of_no_sems (by decide) r.2⟩) (Cert.Reference18Ideal.Value.run m g)

theorem frame_Reference19Ideal : Cert.quiescent_Reference19Ideal := fun m g _ =>
  (θ_run _ _ _).mono (fun r h => ⟨fun c => (h c).2.2, sem_eq_zero_of_no_sems (by decide) r.2⟩) (Cert.Reference19Ideal.Value.run m g)

theorem frame_Reference20Ideal : Cert.quiescent_Reference20Ideal := fun m g _ =>
  (θ_run _ _ _).mono (fun r h => ⟨fun c => (h c).2, sem_eq_zero_of_no_sems (by decide) r.2⟩) (Cert.Reference20Ideal.Steps.run m g)

theorem frame_Reference21Ideal : Cert.quiescent_Reference21Ideal := fun m g _ =>
  (θ_run _ _ _).mono (fun r h => ⟨fun c => (h c).2.2, sem_eq_zero_of_no_sems (by decide) r.2⟩) (Cert.Reference21Ideal.Value.run m g)

theorem frame_Reference22Ideal : Cert.quiescent_Reference22Ideal := fun m g _ =>
  (θ_run _ _ _).mono (fun r h => ⟨fun c => (h c).2.2, sem_eq_zero_of_no_sems (by decide) r.2⟩) (Cert.Reference22Ideal.Value.run m g)

theorem frame_Reference23Ideal : Cert.quiescent_Reference23Ideal := fun m g _ =>
  (θ_run _ _ _).mono (fun r h => ⟨fun c => (h c).2.2, sem_eq_zero_of_no_sems (by decide) r.2⟩) (Cert.Reference23Ideal.Value.run m g)

theorem value_KernelIdeal : Cert.algebraic_KernelIdeal_ReferenceIdeal := by
  pair_intro
  · run_from Cert.KernelIdeal.S5.run_value m g
  · run_from Cert.ReferenceIdeal.Value.run m' g'
    rfl

theorem value_Kernel2Ideal : Cert.algebraic_Kernel2Ideal_Reference2Ideal := by
  pair_intro
  · run_from Cert.Kernel2Ideal.Gen.run_main m g
  · run_from Cert.Reference2Ideal.Value.run m' g'
    exact (Cert.Kernel2Ideal.Value2.final m c).symm

theorem value_Kernel3Ideal : Cert.algebraic_Kernel3Ideal_Reference3Ideal := by
  pair_intro
  · run_from Cert.Kernel3Ideal.Gen.run_main m g
  · run_from Cert.Reference3Ideal.Value.run m' g'
    exact (Cert.Kernel3Ideal.Value3.final m c).symm

theorem value_Kernel4Ideal : Cert.algebraic_Kernel4Ideal_Reference4Ideal := by
  pair_intro
  · run_from Cert.Kernel4Ideal.Gen.run_main m g
  · run_from Cert.Reference4Ideal.Value.run m' g'
    exact (Cert.Kernel4Ideal.Value4.final m c).symm

theorem value_Kernel5Ideal : Cert.algebraic_Kernel5Ideal_Reference5Ideal := by
  pair_intro
  · run_from Cert.Kernel5Ideal.Gen.run_main m g
  · run_from Cert.Reference5Ideal.Value.run m' g'
    exact (Cert.Kernel5Ideal.Value5.final m c).symm

theorem value_Kernel6Ideal : Cert.algebraic_Kernel6Ideal_Reference6Ideal := by
  pair_intro
  · run_from Cert.Kernel6Ideal.Gen.run_main m g
  · run_from Cert.Reference6Ideal.Value.run m' g'
    exact (Cert.Kernel6Ideal.Value6.final m c).symm

theorem value_Kernel7Ideal : Cert.algebraic_Kernel7Ideal_Reference7Ideal := by
  pair_intro
  · run_from Cert.Kernel7Ideal.Gen.run_main m g
  · run_from Cert.Reference7Ideal.Value.run m' g'
    exact (Cert.Kernel7Ideal.Value7.final m c).symm

theorem value_Kernel8Ideal : Cert.algebraic_Kernel8Ideal_Reference8Ideal := by
  pair_intro
  · run_from Cert.Kernel8Ideal.Gen.run_main m g
  · run_from Cert.Reference8Ideal.Value.run m' g'
    exact (Cert.Kernel8Ideal.Value8.final m c).symm

theorem value_Kernel9Ideal : Cert.algebraic_Kernel9Ideal_Reference9Ideal := by
  pair_intro
  · run_from Cert.Kernel9Ideal.Gen.run_main m g
  · run_from Cert.Reference9Ideal.Value.run m' g'
    exact (Cert.Kernel9Ideal.Value9.final m c).symm

theorem value_Kernel10Ideal : Cert.algebraic_Kernel10Ideal_Reference10Ideal := by
  pair_intro
  · run_from Cert.Kernel10Ideal.Gen.run_main m g
  · run_from Cert.Reference10Ideal.Value.run m' g'
    exact (Cert.Kernel10Ideal.Value10.final m c).symm

theorem value_Kernel11Ideal : Cert.algebraic_Kernel11Ideal_Reference11Ideal := by
  pair_intro
  · run_from Cert.Kernel11Ideal.Gen.run_main m g
  · run_from Cert.Reference11Ideal.Value.run m' g'
    exact (Cert.Kernel11Ideal.Value11.final m c).symm

theorem value_Kernel12Ideal : Cert.algebraic_Kernel12Ideal_Reference12Ideal := by
  pair_intro
  · run_from Cert.Kernel12Ideal.Gen.run_main m g
  · run_from Cert.Reference12Ideal.Value.run m' g'
    · refine Eq.trans ?_ (Cert.Kernel12Ideal.Value12.final_p m c).symm
      rfl
    · refine Eq.trans ?_ (Cert.Kernel12Ideal.Value12.final_r m c).symm
      rfl

theorem value_Kernel13Ideal : Cert.algebraic_Kernel13Ideal_Reference13Ideal := by
  pair_intro
  · run_from Cert.Kernel13Ideal.Gen.run_main m g
  · run_from Cert.Reference13Ideal.Value.run m' g'
    exact (Cert.Kernel13Ideal.Value13.final m c).symm

theorem value_Kernel14Ideal : Cert.algebraic_Kernel14Ideal_Reference14Ideal := by
  pair_intro
  · run_from Cert.Kernel14Ideal.Gen.run_main m g
  · run_from Cert.Reference14Ideal.Value.run m' g'
    exact (Cert.Kernel14Ideal.Value14.final m c).symm

theorem value_Kernel15Ideal : Cert.algebraic_Kernel15Ideal_Reference15Ideal := by
  pair_intro
  · run_from Cert.Kernel15Ideal.Gen.run_main m g
  · run_from Cert.Reference15Ideal.Value.run m' g'
    exact (Cert.Kernel15Ideal.Value15.final m c).symm

theorem value_Kernel16Ideal : Cert.algebraic_Kernel16Ideal_Reference16Ideal := by
  pair_intro
  · run_from Cert.Kernel16Ideal.Gen.run_main m g
  · run_from Cert.Reference16Ideal.Value.run m' g'
    exact (Cert.Kernel16Ideal.Value16.final m c).symm

theorem value_Kernel17Ideal : Cert.algebraic_Kernel17Ideal_Reference17Ideal := by
  pair_intro
  · run_from Cert.Kernel17Ideal.Gen.run_main m g
  · run_from Cert.Reference17Ideal.Value.run m' g'
    exact (Cert.Kernel17Ideal.Value17.final m c).symm

theorem value_Kernel18Ideal : Cert.algebraic_Kernel18Ideal_Reference18Ideal := by
  pair_intro
  · run_from Cert.Kernel18Ideal.Gen.run_main m g
  · run_from Cert.Reference18Ideal.Value.run m' g'
    refine (Cert.Reference18Ideal.Read.val_main_v28_eq m' c).trans ?_
    refine Eq.trans ?_ (Cert.Kernel18Ideal.Value18.final m c).symm
    obtain ⟨a0, a1, a2, a3⟩ := hagree c
    rw [a0, a1, a2, a3]

theorem value_Kernel19Ideal : Cert.algebraic_Kernel19Ideal_Reference19Ideal := by
  pair_intro
  · run_from Cert.Kernel19Ideal.Gen.run_main m g
  · run_from Cert.Reference19Ideal.Value.run m' g'
    · refine Eq.trans ?_ (Cert.Kernel19Ideal.Value19.final_z m c).symm
      rfl
    · refine Eq.trans ?_ (Cert.Kernel19Ideal.Value19.final_b m c).symm
      rfl

theorem value_Kernel20Ideal : Cert.algebraic_Kernel20Ideal_Reference20Ideal := by
  pair_intro
  · run_from Cert.Kernel20Ideal.Gen.run_main m g
  · run_from Cert.Reference20Ideal.Steps.run m' g'
    · refine Eq.trans ?_ (Cert.Kernel20Ideal.Value20.final_d m c).symm
      rfl
    · refine Eq.trans ?_ (Cert.Kernel20Ideal.Value20.final_b m c).symm
      rfl
    · refine Eq.trans ?_ (Cert.Kernel20Ideal.Value20.final_g m c).symm
      rfl
    · refine Eq.trans ?_ (Cert.Kernel20Ideal.Value20.final_o m c).symm
      rfl

theorem value_Kernel21Ideal : Cert.algebraic_Kernel21Ideal_Reference21Ideal := by
  pair_intro
  · run_from Cert.Kernel21Ideal.Gen.run_main m g
  · run_from Cert.Reference21Ideal.Value.run m' g'
    · refine (Cert.Reference21Ideal.Read.val_main_v38_eq m' c).trans ?_
      refine Eq.trans ?_ (Cert.Kernel21Ideal.Value21.final_x m c).symm
      obtain ⟨a0, a1, a2, a3, a4, a5, a6, a7⟩ := hagree c
      rw [a0, a1, a2, a5, a6, a7]
    · refine (Cert.Reference21Ideal.Read.val_main_v59_eq m' c).trans ?_
      refine Eq.trans ?_ (Cert.Kernel21Ideal.Value21.final_h m c).symm
      obtain ⟨a0, a1, a2, a3, a4, a5, a6, a7⟩ := hagree c
      rw [a0, a1, a2, a3, a4, a5, a6, a7]

theorem value_Kernel22Ideal : Cert.algebraic_Kernel22Ideal_Reference22Ideal := by
  pair_intro
  · run_from Cert.Kernel22Ideal.Gen.run_main m g
  · run_from Cert.Reference22Ideal.Value.run m' g'
    · refine (Cert.Reference22Ideal.Read.val_main_v47_eq m' c).trans ?_
      refine Eq.trans ?_ (Cert.Kernel22Ideal.Value22.final_x m c).symm
      obtain ⟨a0, a1, a2, a3, a4, a5, a6, a7⟩ := hagree c
      rw [a0, a1, a2, a5, a6, a7]
    · refine (Cert.Reference22Ideal.Read.val_main_v68_eq m' c).trans ?_
      refine Eq.trans ?_ (Cert.Kernel22Ideal.Value22.final_h m c).symm
      obtain ⟨a0, a1, a2, a3, a4, a5, a6, a7⟩ := hagree c
      rw [a0, a1, a2, a3, a4, a5, a6, a7]

theorem value_Kernel23Ideal : Cert.algebraic_Kernel23Ideal_Reference23Ideal := by
  pair_intro
  · run_from Cert.Kernel23Ideal.Gen.run_main m g
  · run_from Cert.Reference23Ideal.Value.run m' g'
    · refine (Cert.Reference23Ideal.Read.val_main_v35_eq m' c).trans ?_
      refine Eq.trans ?_ (Cert.Kernel23Ideal.Value23.final_x m c).symm
      obtain ⟨a0, a1, a2, a3, a4, a5, a6⟩ := hagree c
      rw [a0, a1, a2, a5, a6]
    · refine (Cert.Reference23Ideal.Read.val_main_v56_eq m' c).trans ?_
      refine Eq.trans ?_ (Cert.Kernel23Ideal.Value23.final_h m c).symm
      obtain ⟨a0, a1, a2, a3, a4, a5, a6⟩ := hagree c
      rw [a0, a1, a2, a3, a4, a5, a6]

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts,
   Cert.Kernel.S5.frame,
   fun m g _ => Cert.KernelIdeal.S5.frame m g,
   frame_ReferenceIdeal,
   fun m g _ => Cert.Kernel2.Gen.frame m g,
   fun m g _ => Cert.Kernel2Ideal.Gen.frame m g,
   frame_Reference2Ideal,
   fun m g _ => Cert.Kernel3.Gen.frame m g,
   fun m g _ => Cert.Kernel3Ideal.Gen.frame m g,
   frame_Reference3Ideal,
   fun m g _ => Cert.Kernel4.Gen.frame m g,
   fun m g _ => Cert.Kernel4Ideal.Gen.frame m g,
   frame_Reference4Ideal,
   fun m g _ => Cert.Kernel5.Gen.frame m g,
   fun m g _ => Cert.Kernel5Ideal.Gen.frame m g,
   frame_Reference5Ideal,
   fun m g _ => Cert.Kernel6.Gen.frame m g,
   fun m g _ => Cert.Kernel6Ideal.Gen.frame m g,
   frame_Reference6Ideal,
   fun m g _ => Cert.Kernel7.Gen.frame m g,
   fun m g _ => Cert.Kernel7Ideal.Gen.frame m g,
   frame_Reference7Ideal,
   fun m g _ => Cert.Kernel8.Gen.frame m g,
   fun m g _ => Cert.Kernel8Ideal.Gen.frame m g,
   frame_Reference8Ideal,
   fun m g _ => Cert.Kernel9.Gen.frame m g,
   fun m g _ => Cert.Kernel9Ideal.Gen.frame m g,
   frame_Reference9Ideal,
   fun m g _ => Cert.Kernel10.Gen.frame m g,
   fun m g _ => Cert.Kernel10Ideal.Gen.frame m g,
   frame_Reference10Ideal,
   fun m g _ => Cert.Kernel11.Gen.frame m g,
   fun m g _ => Cert.Kernel11Ideal.Gen.frame m g,
   frame_Reference11Ideal,
   fun m g _ => Cert.Kernel12.Gen.frame m g,
   fun m g _ => Cert.Kernel12Ideal.Gen.frame m g,
   frame_Reference12Ideal,
   fun m g _ => Cert.Kernel13.Gen.frame m g,
   fun m g _ => Cert.Kernel13Ideal.Gen.frame m g,
   frame_Reference13Ideal,
   fun m g _ => Cert.Kernel14.Gen.frame m g,
   fun m g _ => Cert.Kernel14Ideal.Gen.frame m g,
   frame_Reference14Ideal,
   fun m g _ => Cert.Kernel15.Gen.frame m g,
   fun m g _ => Cert.Kernel15Ideal.Gen.frame m g,
   frame_Reference15Ideal,
   fun m g _ => Cert.Kernel16.Gen.frame m g,
   fun m g _ => Cert.Kernel16Ideal.Gen.frame m g,
   frame_Reference16Ideal,
   fun m g _ => Cert.Kernel17.Gen.frame m g,
   fun m g _ => Cert.Kernel17Ideal.Gen.frame m g,
   frame_Reference17Ideal,
   fun m g _ => Cert.Kernel18.Gen.frame m g,
   fun m g _ => Cert.Kernel18Ideal.Gen.frame m g,
   frame_Reference18Ideal,
   fun m g _ => Cert.Kernel19.Gen.frame m g,
   fun m g _ => Cert.Kernel19Ideal.Gen.frame m g,
   frame_Reference19Ideal,
   fun m g _ => Cert.Kernel20.Gen.frame m g,
   fun m g _ => Cert.Kernel20Ideal.Gen.frame m g,
   frame_Reference20Ideal,
   fun m g _ => Cert.Kernel21.Gen.frame m g,
   fun m g _ => Cert.Kernel21Ideal.Gen.frame m g,
   frame_Reference21Ideal,
   fun m g _ => Cert.Kernel22.Gen.frame m g,
   fun m g _ => Cert.Kernel22Ideal.Gen.frame m g,
   frame_Reference22Ideal,
   fun m g _ => Cert.Kernel23.Gen.frame m g,
   fun m g _ => Cert.Kernel23Ideal.Gen.frame m g,
   frame_Reference23Ideal,
   trivial,
   value_KernelIdeal,
   trivial,
   value_Kernel2Ideal,
   trivial,
   value_Kernel3Ideal,
   trivial,
   value_Kernel4Ideal,
   trivial,
   value_Kernel5Ideal,
   trivial,
   value_Kernel6Ideal,
   trivial,
   value_Kernel7Ideal,
   trivial,
   value_Kernel8Ideal,
   trivial,
   value_Kernel9Ideal,
   trivial,
   value_Kernel10Ideal,
   trivial,
   value_Kernel11Ideal,
   trivial,
   value_Kernel12Ideal,
   trivial,
   value_Kernel13Ideal,
   trivial,
   value_Kernel14Ideal,
   trivial,
   value_Kernel15Ideal,
   trivial,
   value_Kernel16Ideal,
   trivial,
   value_Kernel17Ideal,
   trivial,
   value_Kernel18Ideal,
   trivial,
   value_Kernel19Ideal,
   trivial,
   value_Kernel20Ideal,
   trivial,
   value_Kernel21Ideal,
   trivial,
   value_Kernel22Ideal,
   trivial,
   value_Kernel23Ideal⟩

end Cert.Proof

end
